-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x128 : Shape := ⟨2, ![100000, 128]⟩
abbrev S16384 : Shape := ⟨1, ![16384]⟩
abbrev S16384x128 : Shape := ⟨2, ![16384, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S100000x128 .f32) (main_arg1 : IVec S16384 32) (main_arg2 : FVec F S16384x128 .f32) (main_arg3 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg3 main_v5
  let main_v7 : IVec S16384 1 := andi main_v4 main_v6
  let main_c_2 : IVec S_ 32 := constantI S_ 32 100000#32
  let main_v8 : IVec S16384 32 := broadcastInDim S16384 ![] bcast_S_S16384 main_c_2
  let main_v9 : IVec S16384 1 := cmpi .slt main_arg3 main_v8
  let main_v10 : IVec S16384 1 := andi main_v7 main_v9
  let main_c_3 : IVec S_ 1 := constantI S_ 1 1#1
  let main_v11 : IVec S_ 1 := (fun x v => Host.reduce IntOp.andi x v reducesTo_S16384_S_d0 h_S_) main_v10 main_c_3
  main_v11
-- ==== Kernel.lean ====
abbrev S100000x128 : Shape := ⟨2, ![100000, 128]⟩
abbrev S16384 : Shape := ⟨1, ![16384]⟩
abbrev S16384x128 : Shape := ⟨2, ![16384, 128]⟩
abbrev S100000 : Shape := ⟨1, ![100000]⟩
abbrev S512 : Shape := ⟨1, ![512]⟩
abbrev S_ : Shape := ⟨0, ![]⟩
abbrev S16 : Shape := ⟨1, ![16]⟩
abbrev S128 : Shape := ⟨1, ![128]⟩
abbrev S128x128 : Shape := ⟨2, ![128, 128]⟩
abbrev S1 : Shape := ⟨1, ![1]⟩
abbrev S1x16 : Shape := ⟨2, ![1, 16]⟩

abbrev nBuf : Table → Nat
  | .hbm => 6
  | .local .scVector .vmem => 18
  | _ => 0

abbrev bufTy : (tb : Table) → Fin (nBuf tb) → BufTy
  | .hbm, ⟨0, _⟩ => ⟨S100000x128, .f32⟩
  | .hbm, ⟨1, _⟩ => ⟨S16384, .i32⟩
  | .hbm, ⟨2, _⟩ => ⟨S16384x128, .f32⟩
  | .hbm, ⟨3, _⟩ => ⟨S16384, .i32⟩
  | .hbm, ⟨4, _⟩ => ⟨S16384, .i32⟩
  | .hbm, ⟨5, _⟩ => ⟨S16384x128, .f32⟩
  | .local .scVector .vmem, ⟨0, _⟩ => ⟨S100000, .i32⟩
  | .local .scVector .vmem, ⟨1, _⟩ => ⟨S16384, .i32⟩
  | .local .scVector .vmem, ⟨2, _⟩ => ⟨S512, .i32⟩
  | .local .scVector .vmem, ⟨3, _⟩ => ⟨S512, .i32⟩
  | .local .scVector .vmem, ⟨4, _⟩ => ⟨S512, .i32⟩
  | .local .scVector .vmem, ⟨5, _⟩ => ⟨S512, .i32⟩
  | .local .scVector .vmem, ⟨6, _⟩ => ⟨S128, .i32⟩
  | .local .scVector .vmem, ⟨7, _⟩ => ⟨S128, .i32⟩
  | .local .scVector .vmem, ⟨8, _⟩ => ⟨S128, .i32⟩
  | .local .scVector .vmem, ⟨9, _⟩ => ⟨S128, .i32⟩
  | .local .scVector .vmem, ⟨10, _⟩ => ⟨S128, .i32⟩
  | .local .scVector .vmem, ⟨11, _⟩ => ⟨S128, .i32⟩
  | .local .scVector .vmem, ⟨12, _⟩ => ⟨S128, .i32⟩
  | .local .scVector .vmem, ⟨13, _⟩ => ⟨S128, .i32⟩
  | .local .scVector .vmem, ⟨14, _⟩ => ⟨S128x128, .f32⟩
  | .local .scVector .vmem, ⟨15, _⟩ => ⟨S128x128, .f32⟩
  | .local .scVector .vmem, ⟨16, _⟩ => ⟨S128x128, .f32⟩
  | .local .scVector .vmem, ⟨17, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg1_scv : Ref sig .scVector := ⟨.hbm, 1, rfl⟩
abbrev main_arg3_scv : Ref sig .scVector := ⟨.hbm, 3, rfl⟩
abbrev main_v0_scv : Ref sig .scVector := ⟨.hbm, 4, rfl⟩
abbrev main_arg0_scv : Ref sig .scVector := ⟨.hbm, 0, rfl⟩
abbrev main_arg2_scv : Ref sig .scVector := ⟨.hbm, 2, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev cc1_scratch5 : Ref sig .scVector := ⟨.vmem, 9, rfl⟩
abbrev cc1_scratch6 : Ref sig .scVector := ⟨.vmem, 10, rfl⟩
abbrev cc1_scratch7 : Ref sig .scVector := ⟨.vmem, 11, rfl⟩
abbrev cc1_scratch8 : Ref sig .scVector := ⟨.vmem, 12, rfl⟩
abbrev cc1_scratch9 : Ref sig .scVector := ⟨.vmem, 13, rfl⟩
abbrev cc1_scratch10 : Ref sig .scVector := ⟨.vmem, 14, rfl⟩
abbrev cc1_scratch11 : Ref sig .scVector := ⟨.vmem, 15, rfl⟩
abbrev cc1_scratch12 : Ref sig .scVector := ⟨.vmem, 16, rfl⟩
abbrev cc1_scratch13 : Ref sig .scVector := ⟨.vmem, 17, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_1 : BitVec 32 := 0#32
  let c625_i32 : BitVec 32 := 625#32
  let v5 : BitVec 32 := Scalar.addi c0_i32_1 c625_i32
  let c1_i32 : BitVec 32 := 1#32
  ⟨c0_i32_1, v5, c1_i32⟩
def k0_off2 (k0_t1 : Fin k0_t1_loop.trips) (c0_i32_15 : BitVec 32) : Fin 1 → Nat :=
  let c0_i32_1 : BitVec 32 := 0#32
  let c1_i32 : BitVec 32 := 1#32
  let arg9 : BitVec 32 := Scf.iv c0_i32_1 c1_i32 k0_t1
  let c10_i32 : BitVec 32 := 10#32
  let v13 : BitVec 32 := Scalar.muli arg9 c10_i32
  let v14 : BitVec 32 := Scalar.addi v13 c0_i32_15
  let c16_i32 : BitVec 32 := 16#32
  let v15 : BitVec 32 := Scalar.muli v14 c16_i32
  let v16 : Index := Scalar.indexCast v15
  ![v16.toNat]
@[reducible] def k0_t2_loop : Scf.Loop 32 :=
  let c0_i32_4 : BitVec 32 := 0#32
  let c128_i32 : BitVec 32 := 128#32
  let v7 : BitVec 32 := Scalar.addi c0_i32_4 c128_i32
  let c1_i32_5 : BitVec 32 := 1#32
  ⟨c0_i32_4, v7, c1_i32_5⟩
def k0_off3 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32 : BitVec 32 := 8#32
  let v13 : BitVec 32 := Scalar.muli arg9 c8_i32
  let c0_i32_15 : BitVec 32 := 0#32
  let v14 : BitVec 32 := Scalar.addi v13 c0_i32_15
  let c16_i32 : BitVec 32 := 16#32
  let v15 : BitVec 32 := Scalar.muli v14 c16_i32
  let v16 : Index := Scalar.indexCast v15
  ![v16.toNat]

def k0_chk1 (v17 : IVec S16 32) : Prop :=
  (∀ a x, ((![v17] : Fin 1 → IVec S16 32) a x).toNat < S100000.size a)
theorem k0_idx1_inb : ∀ (v17 : IVec S16 32) (k0_hw1 : k0_chk1 v17), ∀ a x, ((![v17] : Fin 1 → IVec S16 32) a x).toNat < S100000.size a := fun v17 k0_hw1 => k0_hw1
def k0_off4 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_20 : BitVec 32 := 8#32
  let v25 : BitVec 32 := Scalar.muli arg9 c8_i32_20
  let c1_i32_21 : BitVec 32 := 1#32
  let v26 : BitVec 32 := Scalar.addi v25 c1_i32_21
  let c16_i32_22 : BitVec 32 := 16#32
  let v27 : BitVec 32 := Scalar.muli v26 c16_i32_22
  let v28 : Index := Scalar.indexCast v27
  ![v28.toNat]

def k0_chk2 (v29 : IVec S16 32) : Prop :=
  (∀ a x, ((![v29] : Fin 1 → IVec S16 32) a x).toNat < S100000.size a)
theorem k0_idx2_inb : ∀ (v29 : IVec S16 32) (k0_hw2 : k0_chk2 v29), ∀ a x, ((![v29] : Fin 1 → IVec S16 32) a x).toNat < S100000.size a := fun v29 k0_hw2 => k0_hw2
def k0_off5 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_27 : BitVec 32 := 8#32
  let v37 : BitVec 32 := Scalar.muli arg9 c8_i32_27
  let c2_i32_28 : BitVec 32 := 2#32
  let v38 : BitVec 32 := Scalar.addi v37 c2_i32_28
  let c16_i32_29 : BitVec 32 := 16#32
  let v39 : BitVec 32 := Scalar.muli v38 c16_i32_29
  let v40 : Index := Scalar.indexCast v39
  ![v40.toNat]

def k0_chk3 (v41 : IVec S16 32) : Prop :=
  (∀ a x, ((![v41] : Fin 1 → IVec S16 32) a x).toNat < S100000.size a)
theorem k0_idx3_inb : ∀ (v41 : IVec S16 32) (k0_hw3 : k0_chk3 v41), ∀ a x, ((![v41] : Fin 1 → IVec S16 32) a x).toNat < S100000.size a := fun v41 k0_hw3 => k0_hw3
def k0_off6 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_34 : BitVec 32 := 8#32
  let v49 : BitVec 32 := Scalar.muli arg9 c8_i32_34
  let c3_i32 : BitVec 32 := 3#32
  let v50 : BitVec 32 := Scalar.addi v49 c3_i32
  let c16_i32_35 : BitVec 32 := 16#32
  let v51 : BitVec 32 := Scalar.muli v50 c16_i32_35
  let v52 : Index := Scalar.indexCast v51
  ![v52.toNat]

def k0_chk4 (v53 : IVec S16 32) : Prop :=
  (∀ a x, ((![v53] : Fin 1 → IVec S16 32) a x).toNat < S100000.size a)
theorem k0_idx4_inb : ∀ (v53 : IVec S16 32) (k0_hw4 : k0_chk4 v53), ∀ a x, ((![v53] : Fin 1 → IVec S16 32) a x).toNat < S100000.size a := fun v53 k0_hw4 => k0_hw4
def k0_off7 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_40 : BitVec 32 := 8#32
  let v61 : BitVec 32 := Scalar.muli arg9 c8_i32_40
  let c4_i32 : BitVec 32 := 4#32
  let v62 : BitVec 32 := Scalar.addi v61 c4_i32
  let c16_i32_41 : BitVec 32 := 16#32
  let v63 : BitVec 32 := Scalar.muli v62 c16_i32_41
  let v64 : Index := Scalar.indexCast v63
  ![v64.toNat]

def k0_chk5 (v65 : IVec S16 32) : Prop :=
  (∀ a x, ((![v65] : Fin 1 → IVec S16 32) a x).toNat < S100000.size a)
theorem k0_idx5_inb : ∀ (v65 : IVec S16 32) (k0_hw5 : k0_chk5 v65), ∀ a x, ((![v65] : Fin 1 → IVec S16 32) a x).toNat < S100000.size a := fun v65 k0_hw5 => k0_hw5
def k0_off8 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_46 : BitVec 32 := 8#32
  let v73 : BitVec 32 := Scalar.muli arg9 c8_i32_46
  let c5_i32 : BitVec 32 := 5#32
  let v74 : BitVec 32 := Scalar.addi v73 c5_i32
  let c16_i32_47 : BitVec 32 := 16#32
  let v75 : BitVec 32 := Scalar.muli v74 c16_i32_47
  let v76 : Index := Scalar.indexCast v75
  ![v76.toNat]

def k0_chk6 (v77 : IVec S16 32) : Prop :=
  (∀ a x, ((![v77] : Fin 1 → IVec S16 32) a x).toNat < S100000.size a)
theorem k0_idx6_inb : ∀ (v77 : IVec S16 32) (k0_hw6 : k0_chk6 v77), ∀ a x, ((![v77] : Fin 1 → IVec S16 32) a x).toNat < S100000.size a := fun v77 k0_hw6 => k0_hw6
def k0_off9 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_52 : BitVec 32 := 8#32
  let v85 : BitVec 32 := Scalar.muli arg9 c8_i32_52
  let c6_i32 : BitVec 32 := 6#32
  let v86 : BitVec 32 := Scalar.addi v85 c6_i32
  let c16_i32_53 : BitVec 32 := 16#32
  let v87 : BitVec 32 := Scalar.muli v86 c16_i32_53
  let v88 : Index := Scalar.indexCast v87
  ![v88.toNat]

def k0_chk7 (v89 : IVec S16 32) : Prop :=
  (∀ a x, ((![v89] : Fin 1 → IVec S16 32) a x).toNat < S100000.size a)
theorem k0_idx7_inb : ∀ (v89 : IVec S16 32) (k0_hw7 : k0_chk7 v89), ∀ a x, ((![v89] : Fin 1 → IVec S16 32) a x).toNat < S100000.size a := fun v89 k0_hw7 => k0_hw7
def k0_off10 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c8_i32_58 : BitVec 32 := 8#32
  let v97 : BitVec 32 := Scalar.muli arg9 c8_i32_58
  let c7_i32 : BitVec 32 := 7#32
  let v98 : BitVec 32 := Scalar.addi v97 c7_i32
  let c16_i32_59 : BitVec 32 := 16#32
  let v99 : BitVec 32 := Scalar.muli v98 c16_i32_59
  let v100 : Index := Scalar.indexCast v99
  ![v100.toNat]

def k0_chk8 (v101 : IVec S16 32) : Prop :=
  (∀ a x, ((![v101] : Fin 1 → IVec S16 32) a x).toNat < S100000.size a)
theorem k0_idx8_inb : ∀ (v101 : IVec S16 32) (k0_hw8 : k0_chk8 v101), ∀ a x, ((![v101] : Fin 1 → IVec S16 32) a x).toNat < S100000.size a := fun v101 k0_hw8 => k0_hw8
@[reducible] def k0_t3_loop : Scf.Loop 32 :=
  let c0_i32_8 : BitVec 32 := 0#32
  let c256_i32 : BitVec 32 := 256#32
  let v9 : BitVec 32 := Scalar.addi c0_i32_8 c256_i32
  let c1_i32_9 : BitVec 32 := 1#32
  ⟨c0_i32_8, v9, c1_i32_9⟩
def k0_off11 (k0_t3 : Fin k0_t3_loop.trips) : Fin 1 → Nat :=
  let c0_i32_8 : BitVec 32 := 0#32
  let c1_i32_9 : BitVec 32 := 1#32
  let arg9 : BitVec 32 := Scf.iv c0_i32_8 c1_i32_9 k0_t3
  let c4_i32 : BitVec 32 := 4#32
  let v13 : BitVec 32 := Scalar.muli arg9 c4_i32
  let c0_i32_15 : BitVec 32 := 0#32
  let v14 : BitVec 32 := Scalar.addi v13 c0_i32_15
  let c16_i32 : BitVec 32 := 16#32
  let v15 : BitVec 32 := Scalar.muli v14 c16_i32
  let v16 : Index := Scalar.indexCast v15
  ![v16.toNat]
@[reducible] def k0_t4_loop : Scf.Loop 32 :=
  let c0_i32_20 : BitVec 32 := 0#32
  let c16_i32_21 : BitVec 32 := 16#32
  let v26 : BitVec 32 := Scalar.addi c0_i32_20 c16_i32_21
  let c1_i32_22 : BitVec 32 := 1#32
  ⟨c0_i32_20, v26, c1_i32_22⟩

def k0_chk9 (v17 : IVec S16 32) : Prop :=
  (∀ a x, ((![v17] : Fin 1 → IVec S16 32) a x).toNat < S100000.size a) ∧
  (∀ a x, ((![v17] : Fin 1 → IVec S16 32) a x).toNat < S100000.size a) ∧
  (∀ a x, ((![v17] : Fin 1 → IVec S16 32) a x).toNat < S100000.size a)
theorem k0_idx9_inb : ∀ (v17 : IVec S16 32) (k0_hw9 : k0_chk9 v17), ∀ a x, ((![v17] : Fin 1 → IVec S16 32) a x).toNat < S100000.size a := fun v17 k0_hw9 => k0_hw9.1
theorem k0_idx10_inb : ∀ (v17 : IVec S16 32) (k0_hw9 : k0_chk9 v17), ∀ a x, ((![v17] : Fin 1 → IVec S16 32) a x).toNat < S100000.size a := fun v17 k0_hw9 => k0_hw9.2.1
theorem k0_idx11_inb : ∀ (v17 : IVec S16 32) (k0_hw9 : k0_chk9 v17), ∀ a x, ((![v17] : Fin 1 → IVec S16 32) a x).toNat < S100000.size a := fun v17 k0_hw9 => k0_hw9.2.2
def k0_off12 (k0_t3 : Fin k0_t3_loop.trips) : Fin 1 → Nat :=
  let c0_i32_8 : BitVec 32 := 0#32
  let c1_i32_9 : BitVec 32 := 1#32
  let arg9 : BitVec 32 := Scf.iv c0_i32_8 c1_i32_9 k0_t3
  let c4_i32_24 : BitVec 32 := 4#32
  let v28 : BitVec 32 := Scalar.muli arg9 c4_i32_24
  let c1_i32_25 : BitVec 32 := 1#32
  let v29 : BitVec 32 := Scalar.addi v28 c1_i32_25
  let c16_i32_26 : BitVec 32 := 16#32
  let v30 : BitVec 32 := Scalar.muli v29 c16_i32_26
  let v31 : Index := Scalar.indexCast v30
  ![v31.toNat]
@[reducible] def k0_t5_loop : Scf.Loop 32 :=
  let c0_i32_31 : BitVec 32 := 0#32
  let c16_i32_32 : BitVec 32 := 16#32
  let v41 : BitVec 32 := Scalar.addi c0_i32_31 c16_i32_32
  let c1_i32_33 : BitVec 32 := 1#32
  ⟨c0_i32_31, v41, c1_i32_33⟩

def k0_chk10 (v32 : IVec S16 32) : Prop :=
  (∀ a x, ((![v32] : Fin 1 → IVec S16 32) a x).toNat < S100000.size a) ∧
  (∀ a x, ((![v32] : Fin 1 → IVec S16 32) a x).toNat < S100000.size a) ∧
  (∀ a x, ((![v32] : Fin 1 → IVec S16 32) a x).toNat < S100000.size a)
theorem k0_idx12_inb : ∀ (v32 : IVec S16 32) (k0_hw10 : k0_chk10 v32), ∀ a x, ((![v32] : Fin 1 → IVec S16 32) a x).toNat < S100000.size a := fun v32 k0_hw10 => k0_hw10.1
theorem k0_idx13_inb : ∀ (v32 : IVec S16 32) (k0_hw10 : k0_chk10 v32), ∀ a x, ((![v32] : Fin 1 → IVec S16 32) a x).toNat < S100000.size a := fun v32 k0_hw10 => k0_hw10.2.1
theorem k0_idx14_inb : ∀ (v32 : IVec S16 32) (k0_hw10 : k0_chk10 v32), ∀ a x, ((![v32] : Fin 1 → IVec S16 32) a x).toNat < S100000.size a := fun v32 k0_hw10 => k0_hw10.2.2
def k0_off13 (k0_t3 : Fin k0_t3_loop.trips) : Fin 1 → Nat :=
  let c0_i32_8 : BitVec 32 := 0#32
  let c1_i32_9 : BitVec 32 := 1#32
  let arg9 : BitVec 32 := Scf.iv c0_i32_8 c1_i32_9 k0_t3
  let c4_i32_35 : BitVec 32 := 4#32
  let v43 : BitVec 32 := Scalar.muli arg9 c4_i32_35
  let c2_i32_36 : BitVec 32 := 2#32
  let v44 : BitVec 32 := Scalar.addi v43 c2_i32_36
  let c16_i32_37 : BitVec 32 := 16#32
  let v45 : BitVec 32 := Scalar.muli v44 c16_i32_37
  let v46 : Index := Scalar.indexCast v45
  ![v46.toNat]
@[reducible] def k0_t6_loop : Scf.Loop 32 :=
  let c0_i32_42 : BitVec 32 := 0#32
  let c16_i32_43 : BitVec 32 := 16#32
  let v56 : BitVec 32 := Scalar.addi c0_i32_42 c16_i32_43
  let c1_i32_44 : BitVec 32 := 1#32
  ⟨c0_i32_42, v56, c1_i32_44⟩

def k0_chk11 (v47 : IVec S16 32) : Prop :=
  (∀ a x, ((![v47] : Fin 1 → IVec S16 32) a x).toNat < S100000.size a) ∧
  (∀ a x, ((![v47] : Fin 1 → IVec S16 32) a x).toNat < S100000.size a) ∧
  (∀ a x, ((![v47] : Fin 1 → IVec S16 32) a x).toNat < S100000.size a)
theorem k0_idx15_inb : ∀ (v47 : IVec S16 32) (k0_hw11 : k0_chk11 v47), ∀ a x, ((![v47] : Fin 1 → IVec S16 32) a x).toNat < S100000.size a := fun v47 k0_hw11 => k0_hw11.1
theorem k0_idx16_inb : ∀ (v47 : IVec S16 32) (k0_hw11 : k0_chk11 v47), ∀ a x, ((![v47] : Fin 1 → IVec S16 32) a x).toNat < S100000.size a := fun v47 k0_hw11 => k0_hw11.2.1
theorem k0_idx17_inb : ∀ (v47 : IVec S16 32) (k0_hw11 : k0_chk11 v47), ∀ a x, ((![v47] : Fin 1 → IVec S16 32) a x).toNat < S100000.size a := fun v47 k0_hw11 => k0_hw11.2.2
def k0_off14 (k0_t3 : Fin k0_t3_loop.trips) : Fin 1 → Nat :=
  let c0_i32_8 : BitVec 32 := 0#32
  let c1_i32_9 : BitVec 32 := 1#32
  let arg9 : BitVec 32 := Scf.iv c0_i32_8 c1_i32_9 k0_t3
  let c4_i32_46 : BitVec 32 := 4#32
  let v58 : BitVec 32 := Scalar.muli arg9 c4_i32_46
  let c3_i32 : BitVec 32 := 3#32
  let v59 : BitVec 32 := Scalar.addi v58 c3_i32
  let c16_i32_47 : BitVec 32 := 16#32
  let v60 : BitVec 32 := Scalar.muli v59 c16_i32_47
  let v61 : Index := Scalar.indexCast v60
  ![v61.toNat]
@[reducible] def k0_t7_loop : Scf.Loop 32 :=
  let c0_i32_52 : BitVec 32 := 0#32
  let c16_i32_53 : BitVec 32 := 16#32
  let v71 : BitVec 32 := Scalar.addi c0_i32_52 c16_i32_53
  let c1_i32_54 : BitVec 32 := 1#32
  ⟨c0_i32_52, v71, c1_i32_54⟩

def k0_chk12 (v62 : IVec S16 32) : Prop :=
  (∀ a x, ((![v62] : Fin 1 → IVec S16 32) a x).toNat < S100000.size a) ∧
  (∀ a x, ((![v62] : Fin 1 → IVec S16 32) a x).toNat < S100000.size a) ∧
  (∀ a x, ((![v62] : Fin 1 → IVec S16 32) a x).toNat < S100000.size a)
theorem k0_idx18_inb : ∀ (v62 : IVec S16 32) (k0_hw12 : k0_chk12 v62), ∀ a x, ((![v62] : Fin 1 → IVec S16 32) a x).toNat < S100000.size a := fun v62 k0_hw12 => k0_hw12.1
theorem k0_idx19_inb : ∀ (v62 : IVec S16 32) (k0_hw12 : k0_chk12 v62), ∀ a x, ((![v62] : Fin 1 → IVec S16 32) a x).toNat < S100000.size a := fun v62 k0_hw12 => k0_hw12.2.1
theorem k0_idx20_inb : ∀ (v62 : IVec S16 32) (k0_hw12 : k0_chk12 v62), ∀ a x, ((![v62] : Fin 1 → IVec S16 32) a x).toNat < S100000.size a := fun v62 k0_hw12 => k0_hw12.2.2
@[reducible] def k0_t8_loop : Scf.Loop 32 :=
  let c0_i32_12 : BitVec 32 := 0#32
  let c32_i32 : BitVec 32 := 32#32
  let v11 : BitVec 32 := Scalar.addi c0_i32_12 c32_i32
  let c1_i32_13 : BitVec 32 := 1#32
  ⟨c0_i32_12, v11, c1_i32_13⟩
def k0_off15 (k0_t8 : Fin k0_t8_loop.trips) : Fin 1 → Nat :=
  let c0_i32_12 : BitVec 32 := 0#32
  let c1_i32_13 : BitVec 32 := 1#32
  let arg9 : BitVec 32 := Scf.iv c0_i32_12 c1_i32_13 k0_t8
  let c16_i32 : BitVec 32 := 16#32
  let v13 : BitVec 32 := Scalar.muli arg9 c16_i32
  let v14 : Index := Scalar.indexCast v13
  ![v14.toNat]

def k0_chk13 (v15 : IVec S16 32) : Prop :=
  (∀ a x, ((![v15] : Fin 1 → IVec S16 32) a x).toNat < S100000.size a)
theorem k0_idx21_inb : ∀ (v15 : IVec S16 32) (k0_hw13 : k0_chk13 v15), ∀ a x, ((![v15] : Fin 1 → IVec S16 32) a x).toNat < S100000.size a := fun v15 k0_hw13 => k0_hw13
def k0_off16 (k0_t8 : Fin k0_t8_loop.trips) : Fin 1 → Nat :=
  let c0_i32_12 : BitVec 32 := 0#32
  let c1_i32_13 : BitVec 32 := 1#32
  let arg9 : BitVec 32 := Scf.iv c0_i32_12 c1_i32_13 k0_t8
  let c16_i32_15 : BitVec 32 := 16#32
  let v17 : BitVec 32 := Scalar.muli arg9 c16_i32_15
  let v18 : Index := Scalar.indexCast v17
  ![v18.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
def k1_off2 (k1_t1 : Fin k1_t1_loop.trips) : Fin 1 → Nat :=
  let c0_i32_70 : BitVec 32 := 0#32
  let c0_i32_0 : BitVec 32 := 0#32
  let c1_i32 : BitVec 32 := 1#32
  let arg25 : BitVec 32 := Scf.iv c0_i32_0 c1_i32 k1_t1
  let c16_i32 : BitVec 32 := 16#32
  let v40 : BitVec 32 := Scalar.muli arg25 c16_i32
  let v41 : BitVec 32 := Scalar.addi c0_i32_70 v40
  let v42 : Index := Scalar.indexCast v41
  ![v42.toNat]
def k1_off3 (k1_t1 : Fin k1_t1_loop.trips) : Fin 1 → Nat :=
  let c0_i32_0 : BitVec 32 := 0#32
  let c1_i32 : BitVec 32 := 1#32
  let arg25 : BitVec 32 := Scf.iv c0_i32_0 c1_i32 k1_t1
  let c16_i32_75 : BitVec 32 := 16#32
  let v53 : BitVec 32 := Scalar.muli arg25 c16_i32_75
  let v54 : Index := Scalar.indexCast v53
  ![v54.toNat]
@[reducible] def k1_t2_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
def k1_off4 (k1_t2 : Fin k1_t2_loop.trips) : Fin 1 → Nat :=
  let c128_i32_70 : BitVec 32 := 128#32
  let c0_i32_3 : BitVec 32 := 0#32
  let c1_i32_5 : BitVec 32 := 1#32
  let arg25 : BitVec 32 := Scf.iv c0_i32_3 c1_i32_5 k1_t2
  let c16_i32 : BitVec 32 := 16#32
  let v40 : BitVec 32 := Scalar.muli arg25 c16_i32
  let v41 : BitVec 32 := Scalar.addi c128_i32_70 v40
  let v42 : Index := Scalar.indexCast v41
  ![v42.toNat]
def k1_off5 (k1_t2 : Fin k1_t2_loop.trips) : Fin 1 → Nat :=
  let c0_i32_3 : BitVec 32 := 0#32
  let c1_i32_5 : BitVec 32 := 1#32
  let arg25 : BitVec 32 := Scf.iv c0_i32_3 c1_i32_5 k1_t2
  let c16_i32_75 : BitVec 32 := 16#32
  let v53 : BitVec 32 := Scalar.muli arg25 c16_i32_75
  let v54 : Index := Scalar.indexCast v53
  ![v54.toNat]
@[reducible] def k1_t3_loop : Scf.Loop 32 :=
  let c0_i32_8 : BitVec 32 := 0#32
  let c8_i32_9 : BitVec 32 := 8#32
  let v8 : BitVec 32 := Scalar.addi c0_i32_8 c8_i32_9
  let c1_i32_10 : BitVec 32 := 1#32
  ⟨c0_i32_8, v8, c1_i32_10⟩
def k1_off6 (k1_t3 : Fin k1_t3_loop.trips) : Fin 1 → Nat :=
  let c256_i32_70 : BitVec 32 := 256#32
  let c0_i32_8 : BitVec 32 := 0#32
  let c1_i32_10 : BitVec 32 := 1#32
  let arg25 : BitVec 32 := Scf.iv c0_i32_8 c1_i32_10 k1_t3
  let c16_i32 : BitVec 32 := 16#32
  let v40 : BitVec 32 := Scalar.muli arg25 c16_i32
  let v41 : BitVec 32 := Scalar.addi c256_i32_70 v40
  let v42 : Index := Scalar.indexCast v41
  ![v42.toNat]
def k1_off7 (k1_t3 : Fin k1_t3_loop.trips) : Fin 1 → Nat :=
  let c0_i32_8 : BitVec 32 := 0#32
  let c1_i32_10 : BitVec 32 := 1#32
  let arg25 : BitVec 32 := Scf.iv c0_i32_8 c1_i32_10 k1_t3
  let c16_i32_75 : BitVec 32 := 16#32
  let v53 : BitVec 32 := Scalar.muli arg25 c16_i32_75
  let v54 : Index := Scalar.indexCast v53
  ![v54.toNat]
@[reducible] def k1_t4_loop : Scf.Loop 32 :=
  let c0_i32_13 : BitVec 32 := 0#32
  let c8_i32_14 : BitVec 32 := 8#32
  let v10 : BitVec 32 := Scalar.addi c0_i32_13 c8_i32_14
  let c1_i32_15 : BitVec 32 := 1#32
  ⟨c0_i32_13, v10, c1_i32_15⟩
def k1_off8 (k1_t4 : Fin k1_t4_loop.trips) : Fin 1 → Nat :=
  let c384_i32_70 : BitVec 32 := 384#32
  let c0_i32_13 : BitVec 32 := 0#32
  let c1_i32_15 : BitVec 32 := 1#32
  let arg25 : BitVec 32 := Scf.iv c0_i32_13 c1_i32_15 k1_t4
  let c16_i32 : BitVec 32 := 16#32
  let v40 : BitVec 32 := Scalar.muli arg25 c16_i32
  let v41 : BitVec 32 := Scalar.addi c384_i32_70 v40
  let v42 : Index := Scalar.indexCast v41
  ![v42.toNat]
def k1_off9 (k1_t4 : Fin k1_t4_loop.trips) : Fin 1 → Nat :=
  let c0_i32_13 : BitVec 32 := 0#32
  let c1_i32_15 : BitVec 32 := 1#32
  let arg25 : BitVec 32 := Scf.iv c0_i32_13 c1_i32_15 k1_t4
  let c16_i32_75 : BitVec 32 := 16#32
  let v53 : BitVec 32 := Scalar.muli arg25 c16_i32_75
  let v54 : Index := Scalar.indexCast v53
  ![v54.toNat]
@[reducible] def k1_t5_loop : Scf.Loop 32 :=
  let c0_i32_30 : BitVec 32 := 0#32
  let c8_i32_31 : BitVec 32 := 8#32
  let v18 : BitVec 32 := Scalar.addi c0_i32_30 c8_i32_31
  let c1_i32_32 : BitVec 32 := 1#32
  ⟨c0_i32_30, v18, c1_i32_32⟩
def k1_off10 (k1_t5 : Fin k1_t5_loop.trips) : Fin 1 → Nat :=
  let c0_i32_70 : BitVec 32 := 0#32
  let c0_i32_30 : BitVec 32 := 0#32
  let c1_i32_32 : BitVec 32 := 1#32
  let arg25 : BitVec 32 := Scf.iv c0_i32_30 c1_i32_32 k1_t5
  let c16_i32 : BitVec 32 := 16#32
  let v40 : BitVec 32 := Scalar.muli arg25 c16_i32
  let v41 : BitVec 32 := Scalar.addi c0_i32_70 v40
  let v42 : Index := Scalar.indexCast v41
  ![v42.toNat]
def k1_off11 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v51 : Index := Scalar.indexCast v45
  let c0 : Index := 0#32
  ![v51.toNat, 0]
def k1_off12 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v58 : Index := Scalar.indexCast v45
  let c16 : Index := 16#32
  ![v58.toNat, 16]
def k1_off13 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v65 : Index := Scalar.indexCast v45
  let c32 : Index := 32#32
  ![v65.toNat, 32]
def k1_off14 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v72 : Index := Scalar.indexCast v45
  let c48 : Index := 48#32
  ![v72.toNat, 48]
def k1_off15 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v79 : Index := Scalar.indexCast v45
  let c64 : Index := 64#32
  ![v79.toNat, 64]
def k1_off16 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v86 : Index := Scalar.indexCast v45
  let c80 : Index := 80#32
  ![v86.toNat, 80]
def k1_off17 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v93 : Index := Scalar.indexCast v45
  let c96 : Index := 96#32
  ![v93.toNat, 96]
def k1_off18 (k1_t5 : Fin k1_t5_loop.trips) (c0_i32_72 : BitVec 32) : Fin 2 → Nat :=
  let c0_i32_30 : BitVec 32 := 0#32
  let c1_i32_32 : BitVec 32 := 1#32
  let arg25 : BitVec 32 := Scf.iv c0_i32_30 c1_i32_32 k1_t5
  let c16_i32_71 : BitVec 32 := 16#32
  let v44 : BitVec 32 := Scalar.muli arg25 c16_i32_71
  let v45 : BitVec 32 := Scalar.addi v44 c0_i32_72
  let v100 : Index := Scalar.indexCast v45
  let c112 : Index := 112#32
  ![v100.toNat, 112]
def k1_off19 (i : grid1.Coords) (c0_i32_34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v20 : BitVec 32 := Scalar.addi v2 c0_i32_34
  let c0_i32_70_r2 : BitVec 32 := 0#32
  ![v20.toNat, 0]
@[reducible] def k1_t6_loop : Scf.Loop 32 :=
  let c0_i32_44 : BitVec 32 := 0#32
  let c8_i32_45 : BitVec 32 := 8#32
  let v25 : BitVec 32 := Scalar.addi c0_i32_44 c8_i32_45
  let c1_i32_46 : BitVec 32 := 1#32
  ⟨c0_i32_44, v25, c1_i32_46⟩
def k1_off20 (k1_t6 : Fin k1_t6_loop.trips) : Fin 1 → Nat :=
  let c128_i32_70 : BitVec 32 := 128#32
  let c0_i32_44 : BitVec 32 := 0#32
  let c1_i32_46 : BitVec 32 := 1#32
  let arg25 : BitVec 32 := Scf.iv c0_i32_44 c1_i32_46 k1_t6
  let c16_i32 : BitVec 32 := 16#32
  let v40 : BitVec 32 := Scalar.muli arg25 c16_i32
  let v41 : BitVec 32 := Scalar.addi c128_i32_70 v40
  let v42 : Index := Scalar.indexCast v41
  ![v42.toNat]
def k1_off21 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v51 : Index := Scalar.indexCast v45
  let c0 : Index := 0#32
  ![v51.toNat, 0]
def k1_off22 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v58 : Index := Scalar.indexCast v45
  let c16 : Index := 16#32
  ![v58.toNat, 16]
def k1_off23 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v65 : Index := Scalar.indexCast v45
  let c32 : Index := 32#32
  ![v65.toNat, 32]
def k1_off24 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v72 : Index := Scalar.indexCast v45
  let c48 : Index := 48#32
  ![v72.toNat, 48]
def k1_off25 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v79 : Index := Scalar.indexCast v45
  let c64 : Index := 64#32
  ![v79.toNat, 64]
def k1_off26 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v86 : Index := Scalar.indexCast v45
  let c80 : Index := 80#32
  ![v86.toNat, 80]
def k1_off27 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v93 : Index := Scalar.indexCast v45
  let c96 : Index := 96#32
  ![v93.toNat, 96]
def k1_off28 (k1_t6 : Fin k1_t6_loop.trips) (c0_i32_72 : BitVec 32) : Fin 2 → Nat :=
  let c0_i32_44 : BitVec 32 := 0#32
  let c1_i32_46 : BitVec 32 := 1#32
  let arg25 : BitVec 32 := Scf.iv c0_i32_44 c1_i32_46 k1_t6
  let c16_i32_71 : BitVec 32 := 16#32
  let v44 : BitVec 32 := Scalar.muli arg25 c16_i32_71
  let v45 : BitVec 32 := Scalar.addi v44 c0_i32_72
  let v100 : Index := Scalar.indexCast v45
  let c112 : Index := 112#32
  ![v100.toNat, 112]
@[reducible] def k1_t7_loop : Scf.Loop 32 :=
  let c0_i32_57 : BitVec 32 := 0#32
  let c8_i32_58 : BitVec 32 := 8#32
  let v32 : BitVec 32 := Scalar.addi c0_i32_57 c8_i32_58
  let c1_i32_59 : BitVec 32 := 1#32
  ⟨c0_i32_57, v32, c1_i32_59⟩
def k1_off29 (k1_t7 : Fin k1_t7_loop.trips) : Fin 1 → Nat :=
  let c256_i32_70 : BitVec 32 := 256#32
  let c0_i32_57 : BitVec 32 := 0#32
  let c1_i32_59 : BitVec 32 := 1#32
  let arg25 : BitVec 32 := Scf.iv c0_i32_57 c1_i32_59 k1_t7
  let c16_i32 : BitVec 32 := 16#32
  let v40 : BitVec 32 := Scalar.muli arg25 c16_i32
  let v41 : BitVec 32 := Scalar.addi c256_i32_70 v40
  let v42 : Index := Scalar.indexCast v41
  ![v42.toNat]
def k1_off30 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v51 : Index := Scalar.indexCast v45
  let c0 : Index := 0#32
  ![v51.toNat, 0]
def k1_off31 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v58 : Index := Scalar.indexCast v45
  let c16 : Index := 16#32
  ![v58.toNat, 16]
def k1_off32 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v65 : Index := Scalar.indexCast v45
  let c32 : Index := 32#32
  ![v65.toNat, 32]
def k1_off33 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v72 : Index := Scalar.indexCast v45
  let c48 : Index := 48#32
  ![v72.toNat, 48]
def k1_off34 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v79 : Index := Scalar.indexCast v45
  let c64 : Index := 64#32
  ![v79.toNat, 64]
def k1_off35 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v86 : Index := Scalar.indexCast v45
  let c80 : Index := 80#32
  ![v86.toNat, 80]
def k1_off36 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v93 : Index := Scalar.indexCast v45
  let c96 : Index := 96#32
  ![v93.toNat, 96]
def k1_off37 (k1_t7 : Fin k1_t7_loop.trips) (c0_i32_72 : BitVec 32) : Fin 2 → Nat :=
  let c0_i32_57 : BitVec 32 := 0#32
  let c1_i32_59 : BitVec 32 := 1#32
  let arg25 : BitVec 32 := Scf.iv c0_i32_57 c1_i32_59 k1_t7
  let c16_i32_71 : BitVec 32 := 16#32
  let v44 : BitVec 32 := Scalar.muli arg25 c16_i32_71
  let v45 : BitVec 32 := Scalar.addi v44 c0_i32_72
  let v100 : Index := Scalar.indexCast v45
  let c112 : Index := 112#32
  ![v100.toNat, 112]
@[reducible] def k1_t8_loop : Scf.Loop 32 :=
  let c0_i32_66 : BitVec 32 := 0#32
  let c8_i32_67 : BitVec 32 := 8#32
  let v37 : BitVec 32 := Scalar.addi c0_i32_66 c8_i32_67
  let c1_i32_68 : BitVec 32 := 1#32
  ⟨c0_i32_66, v37, c1_i32_68⟩
def k1_off38 (k1_t8 : Fin k1_t8_loop.trips) : Fin 1 → Nat :=
  let c384_i32_70 : BitVec 32 := 384#32
  let c0_i32_66 : BitVec 32 := 0#32
  let c1_i32_68 : BitVec 32 := 1#32
  let arg25 : BitVec 32 := Scf.iv c0_i32_66 c1_i32_68 k1_t8
  let c16_i32 : BitVec 32 := 16#32
  let v40 : BitVec 32 := Scalar.muli arg25 c16_i32
  let v41 : BitVec 32 := Scalar.addi c384_i32_70 v40
  let v42 : Index := Scalar.indexCast v41
  ![v42.toNat]
def k1_off39 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v51 : Index := Scalar.indexCast v45
  let c0 : Index := 0#32
  ![v51.toNat, 0]
def k1_off40 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v58 : Index := Scalar.indexCast v45
  let c16 : Index := 16#32
  ![v58.toNat, 16]
def k1_off41 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v65 : Index := Scalar.indexCast v45
  let c32 : Index := 32#32
  ![v65.toNat, 32]
def k1_off42 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v72 : Index := Scalar.indexCast v45
  let c48 : Index := 48#32
  ![v72.toNat, 48]
def k1_off43 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v79 : Index := Scalar.indexCast v45
  let c64 : Index := 64#32
  ![v79.toNat, 64]
def k1_off44 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v86 : Index := Scalar.indexCast v45
  let c80 : Index := 80#32
  ![v86.toNat, 80]
def k1_off45 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v93 : Index := Scalar.indexCast v45
  let c96 : Index := 96#32
  ![v93.toNat, 96]
def k1_off46 (k1_t8 : Fin k1_t8_loop.trips) (c0_i32_72 : BitVec 32) : Fin 2 → Nat :=
  let c0_i32_66 : BitVec 32 := 0#32
  let c1_i32_68 : BitVec 32 := 1#32
  let arg25 : BitVec 32 := Scf.iv c0_i32_66 c1_i32_68 k1_t8
  let c16_i32_71 : BitVec 32 := 16#32
  let v44 : BitVec 32 := Scalar.muli arg25 c16_i32_71
  let v45 : BitVec 32 := Scalar.addi v44 c0_i32_72
  let v100 : Index := Scalar.indexCast v45
  let c112 : Index := 112#32
  ![v100.toNat, 112]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x128 : Shape := ⟨2, ![100000, 128]⟩
abbrev S16384 : Shape := ⟨1, ![16384]⟩
abbrev S16384x128 : Shape := ⟨2, ![16384, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384, .i32⟩
  | .hbm, ⟨2, _⟩ => ⟨S16384x128, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S100000x128, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S1, .i32⟩
  | .hbm, ⟨22, _⟩ => ⟨S_, .i32⟩
  | .hbm, ⟨23, _⟩ => ⟨S16384x1, .i32⟩
  | .hbm, ⟨24, _⟩ => ⟨S16384x1, .i1⟩
  | .hbm, ⟨25, _⟩ => ⟨S1x1, .i32⟩
  | .hbm, ⟨26, _⟩ => ⟨S16384x1, .i32⟩
  | .hbm, ⟨27, _⟩ => ⟨S16384x1, .i1⟩
  | .hbm, ⟨28, _⟩ => ⟨S16384x1, .i1⟩
  | .hbm, ⟨29, _⟩ => ⟨S_, .i1⟩
  | .hbm, ⟨30, _⟩ => ⟨S16384, .i1⟩
  | .hbm, ⟨31, _⟩ => ⟨S16384x128, .f32⟩
  | .hbm, ⟨32, _⟩ => ⟨S16384x128, .i1⟩
  | .hbm, ⟨33, _⟩ => ⟨S_, .f32⟩
  | .hbm, ⟨34, _⟩ => ⟨S16384x128, .f32⟩
  | .hbm, ⟨35, _⟩ => ⟨S16384x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩

abbrev nD : Nat := 1
abbrev τ : Topo := Topo.v7x

variable {F : FTy → Type} [FloatOps F]
-- ==== Proof.Program.lean ====
/-
  The two SparseCore kernels' bodies said shortly: each unrolled run of equal steps as one step repeated over a finite
  range, each pair of an enqueue and a wait as one piece, every piece in continuation style, and the equations that the
  printed bodies are these. The memrefs stay parameters, so that a piece used four times (the four blocks of rows a tile
  works through, on two alternating sets of buffers) is one definition.
-/
module

public import proofs.«01_k».proof.Defs
public import proofs.«01_k».proof.Proof.Gen.KernelIdeal

@[expose] public section

noncomputable section

namespace Cert.Proof

open Cert.KernelIdeal Cert.KernelIdeal.Gen
open Idealize.ShloMosaic
open Idealize.SL Idealize.SL.Sem

variable {F : FTy → Type} [FloatOps F]

/-- The effects of a tile: vector subcore `s` of SparseCore `c`. -/
abbrev Tile (F : FTy → Type) (c : Fin τ.nSC) (s : Fin τ.nSub) := TpuEff nD τ sig (Elt F) Λ₀ (.scVector c s)

variable {c : Fin τ.nSC} {s : Fin τ.nSub}

abbrev Vm (sh : Shape) (e : EltTy) := Memref sig .scVector .vmem sh e
abbrev Hb (sh : Shape) (e : EltTy) := Memref sig .scVector .hbm sh e

/-- `n` steps in order, then the rest of the program. -/
def upto {α : Type 1} (n : Nat) (f : Fin n → α → α) (k : α) : α := (List.finRange n).foldr f k

/-- The lanes' numbers. -/
abbrev lanes : IVec S16 32 := iota .scVector S16 32 [0] iota_S16_d0_w32_scVector

/-! ## Pieces -/

/-- A copy of one memref onto another, and the wait for it. -/
def copyWait {α : Type} {sp sp' : Space} {sh : Shape} {e : EltTy} (src : Memref sig .scVector sp sh e) (dst : Memref sig .scVector sp' sh e)
    (sem : DmaSem sig) (hs : src.view.WordExact) (hd : dst.view.WordExact)
    (hx : (DmaTarget.here dst : DmaTarget nD τ sig (.scVector c s) sp' sh e).Typed sp (.dma sem)) (k : Prog (Tile F c s) α) : Prog (Tile F c s) α :=
  .op (.enqueueDma src (.here dst) (.dma sem) hs hd hx) fun _ => .op (.waitDma2 sem src dst hs hd) fun _ => k

/-- The start of an indirect gather of rows of a table. -/
def gatherStart {α : Type} {n : Nat} (src : Hb ⟨2, ![n, 128]⟩ .f32) (dst : Vm S128x128 .f32) (hg : (⟨2, ![n, 128]⟩ : Shape).Gathers 0 S128x128)
    (hn : S128.numel = S128x128.size hg.axis') (inb : ∀ a, (![0, 0] : Fin 2 → Nat) a + (![n, 128] : Fin 2 → Nat) a ≤ (![n, 128] : Fin 2 → Nat) a)
    (hr : (⟨2, ![n, 128]⟩ : Shape).StreamRows 0) (rows : Vm S128 .i32) (sem : DmaSem sig) (k : Prog (Tile F c s) α) : Prog (Tile F c s) α :=
  SparseCore.enqueueIndirectGather rfl (src.slice (Rect.unit (s := ⟨2, ![n, 128]⟩) ![0, 0] ![n, 128] inb) (fun _ => rfl)) dst hg rows hn sem
    (View.wordExact_bits rfl) rfl (Or.inl rfl) hr >>= fun _ => k

/-- The wait for it. -/
def gatherWait {α : Type} {n : Nat} (src : Hb ⟨2, ![n, 128]⟩ .f32) (dst : Vm S128x128 .f32) (hd : dst.view.WordExact)
    (inb : ∀ a, (![0, 0] : Fin 2 → Nat) a + (![n, 128] : Fin 2 → Nat) a ≤ (![n, 128] : Fin 2 → Nat) a)
    (sem : DmaSem sig) (k : Prog (Tile F c s) α) : Prog (Tile F c s) α :=
  .op (.waitDma2 sem (src.slice (Rect.unit (s := ⟨2, ![n, 128]⟩) ![0, 0] ![n, 128] inb) (fun _ => rfl)) dst (View.wordExact_bits rfl) hd) fun _ => k

/-! ## The winner kernel's loops -/

/-- Sixteen zeros. -/
abbrev zeros : IVec S16 32 := broadcast S16 0#32

/-- One trip of the clearing loop: ten groups of sixteen words set to zero. -/
def zeroBody (T : Vm S100000 .i32) (t : Fin k0_t1_loop.trips) : Prog (Tile F c s) (BitVec 32) :=
  upto 10 (fun r k =>
    Prog.op (.load T (Rect.unit (s := S100000) (k0_off2 t (BitVec.ofNat 32 r.val)) S16.size (k0_off2_inb t r)).toLoadRect (View.loadsAt_vmem h_S16)) fun _ =>
    Prog.op (.store T (Rect.unit (s := S100000) (k0_off2 t (BitVec.ofNat 32 r.val)) S16.size (k0_off2_inb t r)) zeros Finset.univ
      (View.stores_vmem_bits_univ h_S16 rfl) (.inl rfl)) fun _ => k) (Prog.ret 0#32)

/-- The values `16·g + lane + 1` of the sixteen positions of group `g`. -/
def posVals (g : BitVec 32) : IVec S16 32 := addi (addi (broadcast S16 (Scalar.muli g 16#32)) lanes) (broadcast S16 1#32)

/-- One group's scatter: its sixteen indices read and checked, their positions stored at them. -/
def scatStep {α : Type} (T : Vm S100000 .i32) (I : Vm S16384 .i32) (g : BitVec 32) (off : Fin 1 → Nat)
    (inb : ∀ a, off a + S16.size a ≤ S16384.size a) (k : Prog (Tile F c s) α) : Prog (Tile F c s) α :=
  Prog.op (.load I (Rect.unit (s := S16384) off S16.size inb).toLoadRect (View.loadsAt_vmem h_S16)) fun (ind : Vec F S16 .i32) =>
  Prog.op (TpuEff.assume (k0_chk1 ind) (k0_chk1.dec ind)) fun h =>
  SparseCore.vectorStoreIdx T ![ind] (posVals g) (fun _ => 1#1) false h.down (View.stores_vmem_bits_univ h_S100000 rfl) >>= fun _ => k

/-- One trip of the scatter loop: eight groups. -/
def scatBody (T : Vm S100000 .i32) (I : Vm S16384 .i32) (t : Fin k0_t2_loop.trips) : Prog (Tile F c s) (BitVec 32) :=
  upto 8 (fun j k => scatStep T I (Scalar.addi (Scalar.muli (Scf.iv 0#32 1#32 t.val) 8#32) (BitVec.ofNat 32 j.val))
    ((![k0_off3 t, k0_off4 t, k0_off5 t, k0_off6 t, k0_off7 t, k0_off8 t, k0_off9 t, k0_off10 t] : Fin 8 → Fin 1 → Nat) j)
    ((fun | 0 => k0_off3_inb t | 1 => k0_off4_inb t | 2 => k0_off5_inb t | 3 => k0_off6_inb t | 4 => k0_off7_inb t | 5 => k0_off8_inb t
          | 6 => k0_off9_inb t | 7 => k0_off10_inb t :
      ∀ j : Fin 8, ∀ a, (![k0_off3 t, k0_off4 t, k0_off5 t, k0_off6 t, k0_off7 t, k0_off8 t, k0_off9 t, k0_off10 t] : Fin 8 → Fin 1 → Nat) j a
        + S16.size a ≤ S16384.size a) j) k) (Prog.ret 0#32)

/-- The loop of sixteen rounds that settles a group: where the table holds less than a lane's position, that position
    is stored again, and the table is read again. -/
abbrev loop16 : Scf.Loop 32 := ⟨0#32, 16#32, 1#32⟩

/-- One round. -/
def fixRound (T : Vm S100000 .i32) (ind ival : IVec S16 32) (h : k0_chk9 ind) (rb : Vec F S16 .i32) : Prog (Tile F c s) (Vec F S16 .i32) :=
  SparseCore.vectorStoreIdx (F := F) T ![ind] ival (cmpi .slt rb ival) false h.2.1 (View.stores_vmem_bits_univ h_S100000 rfl) >>= fun _ =>
  SparseCore.vectorLoadIdx T ![ind] h.2.2 (View.loads_vmem h_S100000)

/-- One group: its indices read and checked, the table read at them, the rounds. -/
def fixStep {α : Type} (T : Vm S100000 .i32) (I : Vm S16384 .i32) (g : BitVec 32) (off : Fin 1 → Nat)
    (inb : ∀ a, off a + S16.size a ≤ S16384.size a) (k : Prog (Tile F c s) α) : Prog (Tile F c s) α :=
  Prog.op (.load I (Rect.unit (s := S16384) off S16.size inb).toLoadRect (View.loadsAt_vmem h_S16)) fun (ind : Vec F S16 .i32) =>
  Prog.op (TpuEff.assume (k0_chk9 ind) (k0_chk9.dec ind)) fun h =>
  SparseCore.vectorLoadIdx T ![ind] h.down.1 (View.loads_vmem h_S100000) >>= fun (rb : Vec F S16 .i32) =>
  Scf.Loop.for loop16 k0_t4_ok rb (fun _ a => fixRound T ind (posVals g) h.down a) >>= fun _ => k

/-- The group number of step `j` of trip `u` of the loop of four groups a trip. -/
def grp4 (u : BitVec 32) (j : Nat) : BitVec 32 := Scalar.addi (Scalar.muli u 4#32) (BitVec.ofNat 32 j)

/-- The first half of a trip: two groups; it hands the trip number on. -/
def fixHalf (T : Vm S100000 .i32) (I : Vm S16384 .i32) (t : Fin k0_t3_loop.trips) :
    Prog (Tile F c s) (Σ' (_ : BitVec 32) (_ : BitVec 32), BitVec 32) :=
  fixStep T I (grp4 (Scf.iv 0#32 1#32 t.val) 0) (k0_off11 t) (k0_off11_inb t)
    (fixStep T I (grp4 (Scf.iv 0#32 1#32 t.val) 1) (k0_off12 t) (k0_off12_inb t)
      (Prog.ret (⟨Scf.iv 0#32 1#32 t.val, grp4 (Scf.iv 0#32 1#32 t.val) 2, 16#32⟩ : Σ' (_ : BitVec 32) (_ : BitVec 32), BitVec 32)))

/-- One trip: four groups, two and two. -/
def fixBody (T : Vm S100000 .i32) (I : Vm S16384 .i32) (t : Fin k0_t3_loop.trips) : Prog (Tile F c s) (BitVec 32) :=
  fixHalf T I t >>= fun x =>
  fixStep T I (grp4 x.1 2) (k0_off13 t) (k0_off13_inb t) (fixStep T I (grp4 x.1 3) (k0_off14 t) (k0_off14_inb t) (Prog.ret 0#32))

/-- One trip of the reading loop: sixteen read indices checked, the table read at them, the words stored. -/
def readBody (T : Vm S100000 .i32) (R O : Vm S512 .i32) (t : Fin k0_t8_loop.trips) : Prog (Tile F c s) (BitVec 32) :=
  Prog.op (.load R (Rect.unit (s := S512) (k0_off15 t) S16.size (k0_off15_inb t)).toLoadRect (View.loadsAt_vmem h_S16)) fun (ind : Vec F S16 .i32) =>
  Prog.op (TpuEff.assume (k0_chk13 ind) (k0_chk13.dec ind)) fun h =>
  SparseCore.vectorLoadIdx T ![ind] h.down (View.loads_vmem h_S100000) >>= fun (w : Vec F S16 .i32) =>
  Prog.op (.load O (Rect.unit (s := S512) (k0_off16 t) S16.size (k0_off16_inb t)).toLoadRect (View.loadsAt_vmem h_S16)) fun _ =>
  Prog.op (.store O (Rect.unit (s := S512) (k0_off16 t) S16.size (k0_off16_inb t)) w Finset.univ
    (View.stores_vmem_bits_univ h_S16 rfl) (.inl rfl)) fun _ => Prog.ret 0#32

/-- The winner kernel. -/
def winnerProg (i : grid0.Coords) (arg2 : Hb S16384 .i32) (harg2 : arg2.IsWhole) (arg3 : Hb S16384 .i32) (harg3 : arg3.IsWhole) (arg4 : Hb S16384 .i32)
    (harg4 : arg4.IsWhole) (arg5 : Vm S100000 .i32) (harg5 : arg5.IsWhole) (arg6 : Vm S16384 .i32) (harg6 : arg6.IsWhole) (arg7 : Vm S512 .i32)
    (harg7 : arg7.IsWhole) (arg8 : Vm S512 .i32) (harg8 : arg8.IsWhole) (v13_r0 : DmaSems sig S_) (v13_r1 : DmaSems sig S_) (v13_r2 : DmaSems sig S_) :
    Prog (Tile F ((i 0).castLE hcore0) ((i 1).castLE hsub0)) PUnit :=
  copyWait arg2 arg6 v13_r0.sem harg2.wordExact harg6.wordExact ⟨Or.inl rfl, trivial⟩ <|
  copyWait (arg3.slice (Rect.unit (s := S16384) (k0_off1 i) S512.size (k0_off1_inb i)) (fun _ => rfl)) arg7 v13_r1.sem
    (View.wordExact_bits rfl) harg7.wordExact ⟨Or.inl rfl, trivial⟩ <|
  Scf.Loop.for k0_t1_loop k0_t1_ok 0#32 (fun t _ => zeroBody arg5 t) >>= fun _ =>
  Scf.Loop.for k0_t2_loop k0_t2_ok 0#32 (fun t _ => scatBody arg5 arg6 t) >>= fun _ =>
  Scf.Loop.for k0_t3_loop k0_t3_ok 0#32 (fun t _ => fixBody arg5 arg6 t) >>= fun _ =>
  Scf.Loop.for k0_t8_loop k0_t8_ok 0#32 (fun t _ => readBody arg5 arg7 arg8 t) >>= fun _ =>
  copyWait arg8 (arg4.slice (Rect.unit (s := S16384) (k0_off1 i) S512.size (k0_off1_inb i)) (fun _ => rfl)) v13_r2.sem
    harg8.wordExact (View.wordExact_bits rfl) ⟨Or.inl rfl, trivial⟩ <|
  Prog.ret ⟨⟩

/-- The printed winner kernel is it. -/
theorem winnerProg_eq (i : grid0.Coords) (arg2 : Hb S16384 .i32) (harg2 : arg2.IsWhole) (arg3 : Hb S16384 .i32) (harg3 : arg3.IsWhole) (arg4 : Hb S16384 .i32)
    (harg4 : arg4.IsWhole) (arg5 : Vm S100000 .i32) (harg5 : arg5.IsWhole) (arg6 : Vm S16384 .i32) (harg6 : arg6.IsWhole) (arg7 : Vm S512 .i32)
    (harg7 : arg7.IsWhole) (arg8 : Vm S512 .i32) (harg8 : arg8.IsWhole) (v13_r0 : DmaSems sig S_) (v13_r1 : DmaSems sig S_) (v13_r2 : DmaSems sig S_) :
    cc0__winner_kernel (F := F) i arg2 harg2 arg3 harg3 arg4 harg4 arg5 harg5 arg6 harg6 arg7 harg7 arg8 harg8 v13_r0 v13_r1 v13_r2 = winnerProg i arg2 harg2 arg3 harg3 arg4 harg4 arg5 harg5 arg6 harg6 arg7 harg7 arg8 harg8 v13_r0 v13_r1 v13_r2 := by
  rfl

/-! ## The row kernel's loops -/

/-- The loops of eight trips. -/
abbrev loop8 : Scf.Loop 32 := ⟨0#32, 8#32, 1#32⟩

/-- One trip of the splitting loop of a block: sixteen read indices copied to the block's list of memory rows, and from
    their winners the block's list of value rows: the winner's, or (nothing written) the position itself. -/
def splitBody (R W : Vm S512 .i32) (mI vI : Vm S128 .i32) (base : BitVec 32)
    (off : Fin loop8.trips → Fin 1 → Nat) (inb : ∀ t a, off t a + S16.size a ≤ S512.size a)
    (off' : Fin loop8.trips → Fin 1 → Nat) (inb' : ∀ t a, off' t a + S16.size a ≤ S128.size a)
    (t : Fin loop8.trips) : Prog (Tile F c s) (BitVec 32) :=
  Prog.op (.load R (Rect.unit (s := S512) (off t) S16.size (inb t)).toLoadRect (View.loadsAt_vmem h_S16)) fun (r : Vec F S16 .i32) =>
  Prog.op (.load W (Rect.unit (s := S512) (off t) S16.size (inb t)).toLoadRect (View.loadsAt_vmem h_S16)) fun (w : Vec F S16 .i32) =>
  Prog.op (.load mI (Rect.unit (s := S128) (off' t) S16.size (inb' t)).toLoadRect (View.loadsAt_vmem h_S16)) fun _ =>
  Prog.op (.store mI (Rect.unit (s := S128) (off' t) S16.size (inb' t)) r Finset.univ (View.stores_vmem_bits_univ h_S16 rfl) (.inl rfl)) fun _ =>
  Prog.op (.load vI (Rect.unit (s := S128) (off' t) S16.size (inb' t)).toLoadRect (View.loadsAt_vmem h_S16)) fun _ =>
  Prog.op (.store vI (Rect.unit (s := S128) (off' t) S16.size (inb' t))
    (select (cmpi .sgt w (broadcast S16 0#32)) (subi w (broadcast S16 1#32))
      (addi (broadcast S16 (Scalar.addi base (Scalar.muli (Scf.iv 0#32 1#32 t.val) 16#32))) lanes))
    Finset.univ (View.stores_vmem_bits_univ h_S16 rfl) (.inl rfl)) fun _ => Prog.ret 0#32

/-- One group of sixteen words of a row of the blend: the value row's where the mask is set. -/
def grp {α : Type} (M V : Vm S128x128 .f32) (msk : IVec S16 1) (off : Fin 2 → Nat)
    (inb : ∀ a, off a + S1x16.size a ≤ S128x128.size a) (k : Prog (Tile F c s) α) : Prog (Tile F c s) α :=
  .op (.load M (Rect.unit (s := S128x128) off S1x16.size inb).toLoadRect (View.loadsAt_vmem h_S1x16)) fun a =>
  .op (.load V (Rect.unit (s := S128x128) off S1x16.size inb).toLoadRect (View.loadsAt_vmem h_S1x16)) fun b =>
  .op (.load M (Rect.unit (s := S128x128) off S1x16.size inb).toLoadRect (View.loadsAt_vmem h_S1x16)) fun _ =>
  .op (.store M (Rect.unit (s := S128x128) off S1x16.size inb)
    (shapeCast S1x16 (select msk (shapeCast S16 b shapeCasts_S1x16_S16) (shapeCast S16 a shapeCasts_S1x16_S16)) shapeCasts_S16_S1x16)
    Finset.univ (View.stores_vmem_bits_univ h_S1x16 rfl) (.inl rfl)) fun _ => k

theorem slices16 (r : Fin 16) : S16.Slices ![r.val] S1 := by revert r; decide

/-- Whether the winner of row `r` of sixteen is positive, in every lane. -/
def rowMask (w : IVec S16 32) (r : Fin 16) : IVec S16 1 :=
  cmpi .sgt (broadcast S16 (extractAt ![0] (extractStridedSlice S1 ![r.val] w (slices16 r)) inpos_S1_p0)) (broadcast S16 0#32)

/-- One trip of the blend of a block: sixteen rows of eight groups. -/
def blendBody (M V : Vm S128x128 .f32) (W : Vm S512 .i32)
    (off1 : Fin loop8.trips → Fin 1 → Nat) (inb1 : ∀ t a, off1 t a + S16.size a ≤ S512.size a)
    (off : Fin 8 → Fin loop8.trips → BitVec 32 → Fin 2 → Nat)
    (inb : ∀ q t, ∀ r : Fin 16, ∀ a, off q t (BitVec.ofNat 32 r.val) a + S1x16.size a ≤ S128x128.size a)
    (t : Fin loop8.trips) : Prog (Tile F c s) (BitVec 32) :=
  Prog.op (.load W (Rect.unit (s := S512) (off1 t) S16.size (inb1 t)).toLoadRect (View.loadsAt_vmem h_S16)) fun (w : Vec F S16 .i32) =>
    upto 16 (fun r k => upto 8 (fun q k => grp M V (rowMask w r) (off q t (BitVec.ofNat 32 r.val)) (inb q t r) k) k) (Prog.ret 0#32)

/-- The groups' offsets in the four blends, -/
def boff : Fin 4 → Fin 8 → Fin loop8.trips → BitVec 32 → Fin 2 → Nat :=
  ![![k1_off11, k1_off12, k1_off13, k1_off14, k1_off15, k1_off16, k1_off17, k1_off18],
    ![k1_off21, k1_off22, k1_off23, k1_off24, k1_off25, k1_off26, k1_off27, k1_off28],
    ![k1_off30, k1_off31, k1_off32, k1_off33, k1_off34, k1_off35, k1_off36, k1_off37],
    ![k1_off39, k1_off40, k1_off41, k1_off42, k1_off43, k1_off44, k1_off45, k1_off46]]

/-- in range, -/
theorem boff_inb (b : Fin 4) : ∀ q t, ∀ r : Fin 16, ∀ a, boff b q t (BitVec.ofNat 32 r.val) a + S1x16.size a ≤ S128x128.size a :=
  match b with
  | 0 => fun q => match q with | 0 => k1_off11_inb | 1 => k1_off12_inb | 2 => k1_off13_inb | 3 => k1_off14_inb | 4 => k1_off15_inb | 5 => k1_off16_inb | 6 => k1_off17_inb | 7 => k1_off18_inb
  | 1 => fun q => match q with | 0 => k1_off21_inb | 1 => k1_off22_inb | 2 => k1_off23_inb | 3 => k1_off24_inb | 4 => k1_off25_inb | 5 => k1_off26_inb | 6 => k1_off27_inb | 7 => k1_off28_inb
  | 2 => fun q => match q with | 0 => k1_off30_inb | 1 => k1_off31_inb | 2 => k1_off32_inb | 3 => k1_off33_inb | 4 => k1_off34_inb | 5 => k1_off35_inb | 6 => k1_off36_inb | 7 => k1_off37_inb
  | 3 => fun q => match q with | 0 => k1_off39_inb | 1 => k1_off40_inb | 2 => k1_off41_inb | 3 => k1_off42_inb | 4 => k1_off43_inb | 5 => k1_off44_inb | 6 => k1_off45_inb | 7 => k1_off46_inb

/-- and of the winners they read, -/
def woff : Fin 4 → Fin loop8.trips → Fin 1 → Nat := ![k1_off10, k1_off20, k1_off29, k1_off38]

theorem woff_inb (b : Fin 4) : ∀ t a, woff b t a + S16.size a ≤ S512.size a :=
  match b with | 0 => k1_off10_inb | 1 => k1_off20_inb | 2 => k1_off29_inb | 3 => k1_off38_inb

/-- of the splits' reads, -/
def roff : Fin 4 → Fin loop8.trips → Fin 1 → Nat := ![k1_off2, k1_off4, k1_off6, k1_off8]

theorem roff_inb (b : Fin 4) : ∀ t a, roff b t a + S16.size a ≤ S512.size a :=
  match b with | 0 => k1_off2_inb | 1 => k1_off4_inb | 2 => k1_off6_inb | 3 => k1_off8_inb

/-- and of their writes. -/
def loff : Fin 4 → Fin loop8.trips → Fin 1 → Nat := ![k1_off3, k1_off5, k1_off7, k1_off9]

theorem loff_inb (b : Fin 4) : ∀ t a, loff b t a + S16.size a ≤ S128.size a :=
  match b with | 0 => k1_off3_inb | 1 => k1_off5_inb | 2 => k1_off7_inb | 3 => k1_off9_inb

/-- The tile's first row. -/
def base1 (i : grid1.Coords) : BitVec 32 :=
  Scalar.muli (Scalar.addi (Scalar.muli (BitVec.ofNat 32 (i 1).val) 2#32) (BitVec.ofNat 32 (i 0).val)) 512#32

/-- The splitting loop of block `b`. -/
def splitLoop {α : Type} (i : grid1.Coords) (b : Fin 4) (R W : Vm S512 .i32) (mI vI : Vm S128 .i32) (k : Prog (Tile F c s) α) : Prog (Tile F c s) α :=
  Scf.Loop.for loop8 k1_t1_ok 0#32 (fun t _ => splitBody R W mI vI (Scalar.addi (base1 i) (BitVec.ofNat 32 (128 * b.val)))
    (roff b) (roff_inb b) (loff b) (loff_inb b) t) >>= fun _ => k

/-- The blending loop of block `b`. -/
def blendLoop {α : Type} (b : Fin 4) (M V : Vm S128x128 .f32) (W : Vm S512 .i32) (k : Prog (Tile F c s) α) : Prog (Tile F c s) α :=
  Scf.Loop.for loop8 k1_t1_ok 0#32 (fun t _ => blendBody M V W (woff b) (woff_inb b) (boff b) (boff_inb b) t) >>= fun _ => k

/-- The copy of block `b`'s rows out. -/
def writeOut {α : Type} (i : grid1.Coords) (b : Fin 4) (M : Vm S128x128 .f32) (hM : M.IsWhole) (O : Hb S16384x128 .f32) (sem : DmaSem sig)
    (k : Prog (Tile F c s) α) : Prog (Tile F c s) α :=
  copyWait M (O.slice (Rect.unit (s := S16384x128) (k1_off19 i (BitVec.ofNat 32 (128 * b.val))) S128x128.size (k1_off19_inb i b)) (fun _ => rfl)) sem
    hM.wordExact (View.wordExact_bits rfl) ⟨Or.inl rfl, trivial⟩ k

/-- The start of the gather of memory rows, -/
abbrev mStart {α : Type} (src : Hb S100000x128 .f32) (dst : Vm S128x128 .f32) (rows : Vm S128 .i32) (sem : DmaSem sig) (k : Prog (Tile F c s) α) :=
  gatherStart src dst gathers_S100000x128_S128x128 rfl inb_S100000x128_S100000x128_0_0 (by decide) rows sem k
/-- of value rows, -/
abbrev vStart {α : Type} (src : Hb S16384x128 .f32) (dst : Vm S128x128 .f32) (rows : Vm S128 .i32) (sem : DmaSem sig) (k : Prog (Tile F c s) α) :=
  gatherStart src dst gathers_S16384x128_S128x128 rfl inb_S16384x128_S16384x128_0_0 (by decide) rows sem k
/-- and the waits. -/
abbrev mWait {α : Type} (src : Hb S100000x128 .f32) (dst : Vm S128x128 .f32) (hd : dst.IsWhole) (sem : DmaSem sig) (k : Prog (Tile F c s) α) :=
  gatherWait src dst hd.wordExact inb_S100000x128_S100000x128_0_0 sem k
abbrev vWait {α : Type} (src : Hb S16384x128 .f32) (dst : Vm S128x128 .f32) (hd : dst.IsWhole) (sem : DmaSem sig) (k : Prog (Tile F c s) α) :=
  gatherWait src dst hd.wordExact inb_S16384x128_S16384x128_0_0 sem k

/-- The row kernel up to the first block's memory rows: the tile's indices and winners fetched, split, the first
    gathers started, the first wait. -/
def rowProg1 (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) :
    Prog (Tile F ((i 0).castLE hcore1) ((i 1).castLE hsub1)) (BitVec 32) :=
  copyWait (arg4.slice (Rect.unit (s := S16384) (k1_off1 i) S512.size (k1_off1_inb i)) (fun _ => rfl)) arg7 v40_r0.sem
    (View.wordExact_bits rfl) harg7.wordExact ⟨Or.inl rfl, trivial⟩ <|
  copyWait (arg5.slice (Rect.unit (s := S16384) (k1_off1 i) S512.size (k1_off1_inb i)) (fun _ => rfl)) arg8 v40_r1.sem
    (View.wordExact_bits rfl) harg8.wordExact ⟨Or.inl rfl, trivial⟩ <|
  splitLoop i 0 arg7 arg8 arg9 arg13 <| splitLoop i 1 arg7 arg8 arg10 arg14 <|
  splitLoop i 2 arg7 arg8 arg11 arg15 <| splitLoop i 3 arg7 arg8 arg12 arg16 <|
  mStart arg2 arg17 arg9 arg21.sem <| vStart arg3 arg19 arg13 arg23.sem <|
  mWait arg2 arg17 harg17 arg21.sem <| Prog.ret (base1 i)

/-- Up to the second block's blend. -/
def rowProg2 (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) :
    Prog (Tile F ((i 0).castLE hcore1) ((i 1).castLE hsub1)) PUnit :=
  vWait arg3 arg19 harg19 arg23.sem <|
  mStart arg2 arg18 arg10 arg22.sem <| vStart arg3 arg20 arg14 arg24.sem <|
  blendLoop 0 arg17 arg19 arg8 <| writeOut i 0 arg17 harg17 arg6 v40_r2.sem <|
  mWait arg2 arg18 harg18 arg22.sem <| vWait arg3 arg20 harg20 arg24.sem <|
  mStart arg2 arg17 arg11 arg21.sem <| vStart arg3 arg19 arg15 arg23.sem <|
  blendLoop 1 arg18 arg20 arg8 <| Prog.ret ⟨⟩

/-- Up to the fourth block's blend. -/
def rowProg3 (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) :
    Prog (Tile F ((i 0).castLE hcore1) ((i 1).castLE hsub1)) PUnit :=
  writeOut i 1 arg18 harg18 arg6 v40_r3.sem <|
  mWait arg2 arg17 harg17 arg21.sem <| vWait arg3 arg19 harg19 arg23.sem <|
  mStart arg2 arg18 arg12 arg22.sem <| vStart arg3 arg20 arg16 arg24.sem <|
  blendLoop 2 arg17 arg19 arg8 <| writeOut i 2 arg17 harg17 arg6 v40_r4.sem <|
  mWait arg2 arg18 harg18 arg22.sem <| vWait arg3 arg20 harg20 arg24.sem <|
  blendLoop 3 arg18 arg20 arg8 <| Prog.ret ⟨⟩

/-- The row kernel. -/
def rowProg (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) :
    Prog (Tile F ((i 0).castLE hcore1) ((i 1).castLE hsub1)) PUnit :=
  rowProg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 >>= fun _ =>
  rowProg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 >>= fun _ =>
  rowProg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 >>= fun _ =>
  writeOut i 3 arg18 harg18 arg6 v40_r5.sem <| Prog.ret ⟨⟩

theorem rowProg1_eq (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) : k1_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 = rowProg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 := by
  rfl

theorem rowProg2_eq (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) (v2 : BitVec 32) : k1_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 v2 = rowProg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 := by
  rfl

theorem rowProg3_eq (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) (v2 : BitVec 32) : k1_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 v2 = rowProg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 := by
  rfl

/-- The printed row kernel is it. -/
theorem rowProg_eq (i : grid1.Coords) (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_) : cc1__row_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 = rowProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v40_r0 v40_r1 v40_r2 v40_r3 v40_r4 v40_r5 := by
  unfold cc1__row_kernel rowProg
  rw [rowProg1_eq]
  simp only [rowProg2_eq, rowProg3_eq]
  rfl

end Cert.Proof
-- ==== Proof.Own.lean ====
module
public import proofs.«01_k».proof.Defs
public import proofs.«01_k».proof.Proof.Program
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic

/-!
# What a tile holds, and the steps of a tile

A tile's hold on a memref at some contents, said by what the memref READS; a step of a program in continuation style as a
relation between what is held before and after; and the loads, stores, copies and gathers of the two kernels as such steps.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' ghost state beside the transfers' counters. -/
abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

variable [FloatOps F] (d : Dev nD) (c : Fin τ.nSC) (s : Fin τ.nSub)

/-- The weakest precondition of a program of the tile. -/
abbrev wpT {α : Type} (p : Prog (Tile F c s) α) (Q : α → sProp 𝕄) : sProp 𝕄 :=
  wp frame (wpE (defs₀ (F := F)) 𝒱₀ (V d c s) none) Set.univ p Q

/-- The tile's hold on a memref at share `q`: its elements, at contents the memref reads as `X`. -/
def own {sp : Space} {sh : Shape} {e : EltTy} (M : Memref sig .scVector sp sh e) (q : PosShare TreeShare) (X : sh.Idx → Elt F e) : sProp 𝕄 :=
  iprop(∃ f : Buf (Elt F) (M.view.loc (V d c s)), ⌜M.view.read (Elt F) f = X⌝ ∗ (M.view.loc (V d c s) ↦[M.view.set]{q} f))

/-- A cell of the tile at zero. -/
abbrev cell (sem : DmaSem sig) : sProp 𝕄 := semVal ((V d c s, SemLoc.dma sem) : GSem nD τ sig) 0

/-- What the tile owes, beside the levels: unchanged but for waits recorded at no call. -/
def due (O : CellTallies nD τ sig (HIx 2)) (W : Waits sig (HIx 2)) : sProp 𝕄 :=
  iprop(levAts (K (F := F)).L (K (F := F)).lev ∗ ∃ W', ⌜∀ p ∈ W', p ∈ W ∨ p.2 = none⌝ ∗ owes (V d c s) O W')

/-- A step `f` of a program, ahead of any rest: from `P` it leads to the rest at `P'`. -/
def Runs {α : Type} (P : sProp 𝕄) (f : Prog (Tile F c s) α → Prog (Tile F c s) α) (P' : sProp 𝕄) : Prop :=
  ∀ (k : Prog (Tile F c s) α) (Q : α → sProp 𝕄), P ⊢ iprop((P' -∗ wpT d c s k Q) -∗ wpT d c s (f k) Q)

variable {d c s}
variable {α : Type}

/-- A step leaves alone what it does not use. -/
theorem Runs.keep {P P' : sProp 𝕄} {f : Prog (Tile F c s) α → Prog (Tile F c s) α} (h : Runs d c s P f P') (R : sProp 𝕄) :
    Runs d c s iprop(P ∗ R) f iprop(P' ∗ R) := by
  intro k Q
  iintro ⟨HP, HR⟩ Hk
  iapply (h k Q) $$ HP
  iintro HP'
  iapply Hk
  isplitl [HP'] <;> iassumption

/-- A step from more to less. -/
theorem Runs.mono {P P₁ P' P₁' : sProp 𝕄} {f : Prog (Tile F c s) α → Prog (Tile F c s) α} (h : Runs d c s P f P') (h₁ : P₁ ⊢ P) (h₂ : P' ⊢ P₁') :
    Runs d c s P₁ f P₁' := by
  intro k Q
  iintro HP Hk
  iapply (h k Q) $$ [HP]
  · iapply h₁; iexact HP
  iintro HP'
  iapply Hk
  iapply h₂; iexact HP'

/-- Two steps in turn. -/
theorem Runs.comp {P P' P'' : sProp 𝕄} {f g : Prog (Tile F c s) α → Prog (Tile F c s) α} (h : Runs d c s P f P') (h' : Runs d c s P' g P'') :
    Runs d c s P (fun k => f (g k)) P'' := by
  intro k Q
  iintro HP Hk
  iapply (h (g k) Q) $$ HP
  iintro HP'
  iapply (h' k Q) $$ HP'
  iexact Hk

/-- A step repeated over a finite range. -/
theorem Runs.upto {n : Nat} (St : Nat → sProp 𝕄) (f : Fin n → Prog (Tile F c s) α → Prog (Tile F c s) α)
    (h : ∀ j : Fin n, Runs d c s (St j.val) (f j) (St (j.val + 1))) : Runs d c s (St 0) (Cert.Proof.upto n f) (St n) := by
  induction n generalizing St with
  | zero => intro k Q; iintro HP Hk; iapply Hk; iexact HP
  | succ n ih =>
    intro k Q
    have e : Cert.Proof.upto (n + 1) f k = f 0 (Cert.Proof.upto n (fun j => f j.succ) k) := by
      unfold Cert.Proof.upto; rw [List.finRange_succ, List.foldr_cons, List.foldr_map]
    rw [e]
    exact ((h 0).comp (ih (fun j => St (j + 1)) (fun j => f j.succ) (fun j => h j.succ))) k Q

/-- The end of a program. -/
theorem wpT_ret (a : α) {Q : α → sProp 𝕄} : Q a ⊢ wpT d c s (Prog.ret a) Q := by
  show Q a ⊢ iprop(|={Set.univ}[frame]=> Q a)
  iintro H
  imodintro
  iexact H

/-- A step that ends the program. -/
theorem Runs.done {P P' : sProp 𝕄} {f : Prog (Tile F c s) α → Prog (Tile F c s) α} (h : Runs d c s P f P') (a : α) {Q : α → sProp 𝕄} (hQ : P' ⊢ Q a) :
    P ⊢ wpT d c s (f (Prog.ret a)) Q := by
  iintro H
  iapply (h (Prog.ret a) Q) $$ H
  iintro H
  iapply wpT_ret
  iapply hQ
  iexact H

/-- A loop whose every trip keeps an invariant. -/
theorem wp_loop {σ : Type} (l : Scf.Loop 32) (hok : l.OK) (init : σ) (body : Fin l.trips → σ → Prog (Tile F c s) σ) (St : Nat → σ → sProp 𝕄)
    (h : ∀ (t : Fin l.trips) (a : σ), St t.val a ⊢ wpT d c s (body t a) (St (t.val + 1))) (k : σ → Prog (Tile F c s) α) (Q : α → sProp 𝕄) :
    St 0 init ⊢ iprop((∀ a, St l.trips a -∗ wpT d c s (k a) Q) -∗ wpT d c s (Scf.Loop.for l hok init body >>= k) Q) :=
  Scf.wp_for_bind frame (wpE (defs₀ (F := F)) 𝒱₀ (V d c s) none) Set.univ l.lb l.ub l.st hok init body St h

section Own

variable {sp : Space} {sh : Shape} {e : EltTy}

/-- Contents a memref reads alike agree on its elements. -/
theorem read_inj (M : Memref sig .scVector sp sh e) {f g : M.view.ty.Contents (Elt F)} (h : M.view.read (Elt F) f = M.view.read (Elt F) g) :
    ∀ i ∈ M.view.set, f i = g i := by
  intro i hi
  obtain ⟨x, -, rfl⟩ := Finset.mem_map.1 hi
  have := congrFun h x
  rw [View.read_apply, View.read_apply] at this
  exact (cast_inj _).1 this

/-- Elements held at contents are held at any contents that agree on them. -/
theorem pts_congr {ℓ : Loc nD τ sig} {S : Finset (Idx ℓ)} {q : PosShare TreeShare} {f g : Buf (Elt F) ℓ} (h : ∀ i ∈ S, f i = g i) :
    (ℓ ↦[S]{q} f : sProp 𝕄) ⊢ (ℓ ↦[S]{q} g) := by
  have e : (ℓ ↦[S]{q} f : sProp 𝕄) = (ℓ ↦[S]{q} g) := pointsTo_congr h
  rw [e]

/-- The elements held at contents are the memref held at what it reads of them; -/
theorem own_intro {M : Memref sig .scVector sp sh e} {q : PosShare TreeShare} {f : Buf (Elt F) (M.view.loc (V d c s))} {X : sh.Idx → Elt F e}
    (h : M.view.read (Elt F) f = X) : (M.view.loc (V d c s) ↦[M.view.set]{q} f) ⊢ own d c s M q X := by
  unfold own
  iintro H
  iexists f
  isplitr; · ipureintro; exact h
  iexact H

/-- and back. -/
theorem own_elim {M : Memref sig .scVector sp sh e} {q : PosShare TreeShare} {f : Buf (Elt F) (M.view.loc (V d c s))} {X : sh.Idx → Elt F e}
    (h : M.view.read (Elt F) f = X) : own d c s M q X ⊢ (M.view.loc (V d c s) ↦[M.view.set]{q} f) := by
  unfold own
  iintro ⟨%g, %hg, H⟩
  iapply (pts_congr (read_inj M (hg.trans h.symm)))
  iexact H

end Own

section Steps

variable {sp sp' : Space} {sh : Shape} {e : EltTy}

/-- A load at a rectangle reads what the memref reads there. -/
theorem own_load {M : Vm sh e} {r : Rect sh} {hl : M.view.LoadsAt r.toLoadRect} {q : PosShare TreeShare} {X : sh.Idx → Elt F e}
    (k : (r.shape.Idx → Elt F e) → Prog (Tile F c s) α) (Q : α → sProp 𝕄) :
    own d c s M q X ⊢ iprop((own d c s M q X -∗ wpT d c s (k fun x => X (r.emb x)) Q) -∗ wpT d c s (.op (.load M r.toLoadRect hl) k) Q) := by
  unfold own
  iintro ⟨%f, %hf, H⟩ Hk
  iapply (wp_load (defs := defs₀ (F := F)) 𝒱₀ (V d c s) none Set.univ (m := M) (r := r.toLoadRect) (hl := hl) (k := k) (q := q) (f := f)
    (S := M.view.set) (View.setOn_subset_set _ _)) $$ H
  iintro H
  have e : M.view.readAt (Elt F) r.toLoadRect f = fun x => X (r.emb x) := by
    funext x; exact congrFun hf (r.emb x)
  rw [e]
  iapply Hk
  iexists f
  isplitr; · ipureintro; exact hf
  iexact H

/-- A load whose result is not used. -/
theorem own_load' {M : Vm sh e} {r : Rect sh} {hl : M.view.LoadsAt r.toLoadRect} {q : PosShare TreeShare} {X : sh.Idx → Elt F e} :
    Runs (α := α) d c s (own d c s M q X) (fun k => .op (.load M r.toLoadRect hl) fun _ => k) (own d c s M q X) :=
  fun k Q => own_load (fun _ => k) Q

/-- A store at a rectangle: any contents that are the stored ones on it and the old ones off it. -/
theorem own_store {M : Vm sh e} {r : Rect sh} {w : r.shape.Idx → Elt F e} {hx : (M.access r).Stores Finset.univ}
    {hm : (Finset.univ : Finset r.shape.Idx) = Finset.univ ∨ ∀ a, r.stride a = 1} {X Y : sh.Idx → Elt F e}
    (h₁ : ∀ x, Y (r.emb x) = w x) (h₂ : ∀ j, j ∉ r.set → Y j = X j) :
    Runs (α := α) d c s (own d c s M fullShare X) (fun k => .op (.store M r w Finset.univ hx hm) fun _ => k) (own d c s M fullShare Y) := by
  intro k Q
  unfold own
  iintro ⟨%f, %hf, H⟩ Hk
  iapply (wp_store (defs := defs₀ (F := F)) 𝒱₀ (V d c s) none Set.univ (m := M) (r := r) (w := w) (Mk := Finset.univ) (hx := hx) (hm := hm)
    (k := fun _ => k) (f := f) (S := M.view.set) (View.set_slice_subset _ _)) $$ H
  iintro H
  iapply Hk
  iexists _
  isplitr
  · ipureintro
    show M.view.read (Elt F) ((M.access r).write (Elt F) f w Finset.univ) = Y
    funext j
    by_cases hj : j ∈ r.set
    · obtain ⟨x, -, rfl⟩ := Finset.mem_map.1 ((show r.set = Finset.univ.map r.emb from (Rect.map_emb_univ (r := r)).symm) ▸ hj)
      rw [h₁]
      exact View.read_slice_write_emb (v := M.view) r f w (Finset.mem_univ x)
    · rw [h₂ j hj, ← hf]
      exact View.read_slice_write_of_not_mem (v := M.view) r f w Finset.univ (fun hm => hj (by rwa [Rect.map_emb_univ] at hm))
  iexact H

/-- A gather out of tile memory at a vector of indices. -/
theorem own_loadIdx {t : Shape} {M : Vm sh e} {idxs : Fin sh.rank → IVec t 32} {h : ∀ a x, (idxs a x).toNat < sh.size a} {hl : M.view.Loads}
    {q : PosShare TreeShare} {X : sh.Idx → Elt F e} (k : Vec F t e → Prog (Tile F c s) α) (Q : α → sProp 𝕄) :
    own d c s M q X ⊢ iprop((own d c s M q X -∗ wpT d c s (k (loadIdx (F := F) X idxs h)) Q)
      -∗ wpT d c s (SparseCore.vectorLoadIdx M idxs h hl >>= k) Q) := by
  unfold own
  iintro ⟨%f, %hf, H⟩ Hk
  iapply (SparseCore.wp_vectorLoadIdx (defs := defs₀ (F := F)) 𝒱₀ (V d c s) none Set.univ (base := M) (idxs := idxs) (h := h) (hl := hl) (k := k)
    (q := q) (f := f) (S := M.view.set) (View.set_slice_subset _ _)) $$ H
  iintro H
  have e : (M.access (.whole sh)).read (Elt F) f = X := by
    funext x
    have := congrFun hf x
    rw [← this]
    show M.view.read (Elt F) f ((Rect.whole sh).emb x) = _
    rw [Rect.emb_whole_apply]
  rw [e]
  iapply Hk
  iexists f
  isplitr; · ipureintro; exact hf
  iexact H

/-- A scatter into tile memory at a vector of indices. -/
theorem own_storeIdx {n : Fin 1 → Nat} {M : Vm sh e} {idxs : Fin sh.rank → IVec ⟨1, n⟩ 32} {v : Vec F ⟨1, n⟩ e} {mask : IVec ⟨1, n⟩ 1}
    {h : ∀ a x, (idxs a x).toNat < sh.size a} {hs : (M.access (.whole sh)).Stores Finset.univ} {X Y : sh.Idx → Elt F e}
    (hY : storeIdx (F := F) X idxs v mask false h = Y) :
    Runs (α := α) d c s (own d c s M fullShare X) (fun k => SparseCore.vectorStoreIdx M idxs v mask false h hs >>= fun _ => k)
      (own d c s M fullShare Y) := by
  intro k Q
  unfold own
  iintro ⟨%f, %hf, H⟩ Hk
  have hset : (M.access (.whole sh)).set = M.view.set := by
    rw [View.set_slice, Rect.set_whole]; rfl
  iapply (SparseCore.wp_vectorStoreIdx (defs := defs₀ (F := F)) 𝒱₀ (V d c s) none Set.univ (base := M) (idxs := idxs) (h := h) (hs := hs)
    (k := fun _ => k) (v := v) (mask := mask) (add := false) (f := f)) $$ [H]
  · rw [hset]; iexact H
  iintro H
  have e : (M.access (.whole sh)).read (Elt F) f = X := by
    funext x
    rw [← congrFun hf x]
    show M.view.read (Elt F) f ((Rect.whole sh).emb x) = _
    rw [Rect.emb_whole_apply]
  rw [e, hY]
  iapply Hk
  iexists _
  isplitr
  · ipureintro
    show M.view.read (Elt F) ((M.access (.whole sh)).write (Elt F) f Y Finset.univ) = Y
    funext x
    have := View.read_slice_write_emb (v := M.view) (Rect.whole sh) f Y (Finset.mem_univ x)
    rwa [Rect.emb_whole_apply] at this
  rw [← hset]; iexact H

end Steps

section Moves

variable {sp sp' : Space} {sh : Shape} {e : EltTy} {O : CellTallies nD τ sig (HIx 2)} {W : Waits sig (HIx 2)}

/-- A wait at a cell, for a transfer that delivers `Dl`. -/
theorem due_wait (hO : ∀ g, O g none = 0) {s' : Shape} {e' : EltTy} {sem : DmaSem sig} {srcw : Memref sig .scVector sp' s' e'}
    {dstw : Memref sig .scVector sp sh e} {hs : srcw.view.WordExact} {hd : dstw.view.WordExact} {N : ℕ} (hN : dstw.view.dmaCredit = N) {Dl : sProp 𝕄} :
    Runs (α := α) d c s iprop(Transfers.Flight countersEmb (V d c s) (.dma sem) none N Dl ∗ due d c s O W)
      (fun k => .op (.waitDma2 sem srcw dstw hs hd) fun _ => k) iprop(Dl ∗ cell d c s sem ∗ due d c s O W) := by
  intro k Q
  unfold due
  iintro ⟨HF, ⟨#HL, %W', %hW, HO⟩⟩ Hk
  ihave Hm := (show levAts (K (F := F)).L (K (F := F)).lev ⊢ Transfers.MayWaits (V d c s) (none : HIx 2) O from
    (K (F := F)).mayWaits_none (thr := V d c s) hO) $$ HL
  iapply (Transfers.wp_waitLocalO (defs := defs₀ (F := F)) countersEmb 𝒱₀ (V d c s) none none hN) $$ [HF HO Hm]
  · isplitl [HF]; · iexact HF
    isplitl [HO]; · iexact HO
    iapply (Transfers.MayWaits.elim (SemLoc.dma sem)); iexact Hm
  iintro ⟨HD, Hc, HO⟩
  iapply Hk
  isplitl [HD]; · iexact HD
  isplitl [Hc]; · iexact Hc
  isplitr; · iexact HL
  iexists _
  isplitr
  · ipureintro
    show ∀ p ∈ insert (SemLoc.dma sem, (none : HIx 2)) W', p ∈ W ∨ p.2 = none
    intro p hp
    rcases Finset.mem_insert.1 hp with rfl | hp
    · exact Or.inr rfl
    · exact hW p hp
  iexact HO

/-- A copy and its wait: the destination reads what the source reads. -/
theorem own_copyWait (hO : ∀ g, O g none = 0) {src : Memref sig .scVector sp sh e} {dst : Memref sig .scVector sp' sh e} {sem : DmaSem sig}
    {hs : src.view.WordExact} {hd : dst.view.WordExact}
    {hx : (DmaTarget.here dst : DmaTarget nD τ sig (.scVector c s) sp' sh e).Typed sp (.dma sem)} {q : PosShare TreeShare} {X Y : sh.Idx → Elt F e}
    (hn : 0 < sh.numel) :
    Runs (α := α) d c s iprop(own d c s src q X ∗ own d c s dst fullShare Y ∗ cell d c s sem ∗ due d c s O W) (copyWait src dst sem hs hd hx)
      iprop(own d c s src q X ∗ own d c s dst fullShare X ∗ cell d c s sem ∗ due d c s O W) := by
  intro k Q
  unfold own copyWait
  iintro ⟨⟨%f, %hf, Hs⟩, ⟨%g, %hg, Hd⟩, Hc, HO⟩ Hk
  iapply (Transfers.wp_dmaLocal (defs := defs₀ (F := F)) countersEmb 𝒱₀ (V d c s) none (src := src) (dst := dst) (fs := f) (fd := g) none
    (dst.view.dmaCredit) rfl (View.dmaCredit_pos _ hn) (Finset.Subset.refl _)) $$ [Hs Hd Hc]
  · isplitl [Hs]; · iexact Hs
    isplitl [Hd]; · iexact Hd
    iexact Hc
  iintro HF
  iapply (due_wait (sem := sem) (srcw := src) (dstw := dst) (hs := hs) (hd := hd) hO rfl k Q) $$ [HF HO]
  · isplitl [HF]; · iexact HF
    iexact HO
  iintro ⟨⟨Hd, Hs⟩, Hc, HO⟩
  iapply Hk
  isplitl [Hs]
  · iexists f
    isplitr; · ipureintro; exact hf
    iexact Hs
  isplitl [Hd]
  · iexists _
    isplitr
    · ipureintro
      show dst.view.read (Elt F) (dst.view.write (Elt F) g (src.view.read (Elt F) f) Finset.univ) = X
      rw [View.read_write_univ, hf]
    iexact Hd
  isplitl [Hc]; · iexact Hc
  iexact HO

/-- What a gather in flight will deliver, at its cell. -/
abbrev flying {n : Nat} (d : Dev nD) (c : Fin τ.nSC) (s : Fin τ.nSub) (src : Hb ⟨2, ![n, 128]⟩ .f32) (dst : Vm S128x128 .f32) (rows : Vm S128 .i32) (sem : DmaSem sig)
    (q : PosShare TreeShare) (X : (⟨2, ![n, 128]⟩ : Shape).Idx → Elt F .f32) (R : S128.Idx → BitVec 32) (Z : S128x128.Idx → Elt F .f32) : sProp 𝕄 :=
  Transfers.Flight countersEmb (V d c s) (.dma sem) none dst.view.dmaCredit
    iprop(own (F := F) d c s dst fullShare Z ∗ own (F := F) d c s src q X ∗ own (F := F) d c s rows fullShare R)

/-- The slice of all of a table's rows covers the table's elements, -/
theorem set_allRows {n : Nat} (src : Hb ⟨2, ![n, 128]⟩ .f32) (inb : ∀ a, (![0, 0] : Fin 2 → Nat) a + (![n, 128] : Fin 2 → Nat) a ≤ (![n, 128] : Fin 2 → Nat) a) :
    (src.slice (Rect.unit (s := ⟨2, ![n, 128]⟩) ![0, 0] ![n, 128] inb) (fun _ => rfl)).view.set = src.view.set := by
  have h : (Rect.unit (s := ⟨2, ![n, 128]⟩) ![0, 0] ![n, 128] inb).set = Finset.univ := by
    refine Finset.eq_univ_iff_forall.2 fun i => Rect.mem_set_unit.2 ?_
    have h0 : (i 0).val < n := (i 0).isLt
    have h1 : (i 1).val < 128 := (i 1).isLt
    intro a
    match a with
    | ⟨0, _⟩ => exact ⟨Nat.zero_le _, by show (i 0).val < 0 + n; omega⟩
    | ⟨1, _⟩ => exact ⟨Nat.zero_le _, by show (i 1).val < 0 + 128; omega⟩
  show (src.view.slice _).set = _
  rw [View.set_slice, h]
  rfl

/-- and its indices are the table's. -/
theorem emb_allRows {n : Nat} (inb : ∀ a, (![0, 0] : Fin 2 → Nat) a + (![n, 128] : Fin 2 → Nat) a ≤ (![n, 128] : Fin 2 → Nat) a)
    (x : (Rect.unit (s := ⟨2, ![n, 128]⟩) ![0, 0] ![n, 128] inb).shape.Idx) (a : Fin 2) :
    ((Rect.unit (s := ⟨2, ![n, 128]⟩) ![0, 0] ![n, 128] inb).emb x a).val = (x a).val := by
  rw [Rect.emb_apply]
  match a with
  | ⟨0, _⟩ => show 0 + 1 * (x 0).val = (x 0).val; omega
  | ⟨1, _⟩ => show 0 + 1 * (x 1).val = (x 1).val; omega

/-- The start of a gather of rows. -/
theorem own_gatherStart {n : Nat} {src : Hb ⟨2, ![n, 128]⟩ .f32} {dst : Vm S128x128 .f32} {hg : (⟨2, ![n, 128]⟩ : Shape).Gathers 0 S128x128}
    {hn : S128.numel = S128x128.size hg.axis'} {inb : ∀ a, (![0, 0] : Fin 2 → Nat) a + (![n, 128] : Fin 2 → Nat) a ≤ (![n, 128] : Fin 2 → Nat) a}
    {hr : (⟨2, ![n, 128]⟩ : Shape).StreamRows 0} {rows : Vm S128 .i32} {sem : DmaSem sig}
    {q : PosShare TreeShare} {X : (⟨2, ![n, 128]⟩ : Shape).Idx → Elt F .f32} {R : S128.Idx → BitVec 32} {Y Z : S128x128.Idx → Elt F .f32}
    (hin : ∀ x, (R x).toNat < n)
    (hN : ∑ j, (dst.slice (S128x128.rowRect hg.axis' j) (S128x128.stride_rowRect hg.axis' j)).view.dmaCredit = dst.view.dmaCredit)
    (hZ : ∀ (x : S128x128.Idx) (l : S128.Idx) (y : (⟨2, ![n, 128]⟩ : Shape).Idx), (l 0).val = (x 0).val → (y 0).val = (R l).toNat →
      (y 1).val = (x 1).val → Z x = X y) :
    Runs (α := α) d c s iprop(own d c s src q X ∗ own d c s dst fullShare Y ∗ own (F := F) d c s rows fullShare R ∗ cell d c s sem)
      (gatherStart src dst hg hn inb hr rows sem) (flying d c s src dst rows sem q X R Z) := by
  intro k Q
  unfold own gatherStart
  iintro ⟨⟨%f, %hf, Hs⟩, ⟨%g, %hgg, Hd⟩, ⟨%o, %ho, Ho⟩, Hc⟩ Hk
  have hset := set_allRows src inb
  iapply (SparseCore.wp_indirectGatherLocal (defs := defs₀ (F := F)) countersEmb 𝒱₀ (V d c s) none (hg := hg)
    (src := src.slice (Rect.unit (s := ⟨2, ![n, 128]⟩) ![0, 0] ![n, 128] inb) (fun _ => rfl)) (dst := dst) (offs := rows) (q := q) (qo := fullShare)
    (fs := f) (fd := g) (fo := o) (none : HIx 2) dst.view.dmaCredit hN (by decide) (fun x => by rw [ho]; exact hin x)) $$ [Hs Hd Ho Hc]
  · isplitl [Hs]; · rw [hset]; iexact Hs
    isplitl [Hd]; · iexact Hd
    isplitl [Ho]; · iexact Ho
    iexact Hc
  iintro HF
  iapply Hk
  iapply (Transfers.Flight_mono (D' := iprop(own (F := F) d c s dst fullShare Z ∗ own (F := F) d c s src q X ∗ own (F := F) d c s rows fullShare R)) ?_) $$ HF
  unfold own
  iintro ⟨Hd, Hs, Ho⟩
  isplitl [Hd]
  · iexists (dst.view.write (Elt F) g (SparseCore.gatherPayload hg
      ((src.slice (Rect.unit (s := ⟨2, ![n, 128]⟩) ![0, 0] ![n, 128] inb) (fun _ => rfl)).view.read (Elt F) f)
      (SparseCore.rows (rows.view.read (Elt F) o) hn (fun x => by rw [ho]; exact hin x))) Finset.univ)
    isplitr
    · ipureintro
      refine (View.read_write_univ _ _).trans ?_
      funext x
      symm
      refine (hZ x (Shape.ofLane (d := ![128]) (x 0)) _ rfl ?_ ?_).trans (congrFun hf _).symm
      · refine (emb_allRows inb _ 0).trans ?_
        refine Eq.trans ?_ (congrArg (fun g => (g (Shape.ofLane (d := ![128]) (x 0))).toNat) ho)
        refine (congrArg Fin.val (Shape.Gathers.idx_axis hg _ x)).trans ?_
        refine congrArg (fun z => (rows.view.read (Elt F) o z).toNat) ?_
        refine Equiv.symm_apply_eq _ |>.2 ?_
        refine Fin.ext ?_
        exact (Shape.rowMajor_val_one (Shape.ofLane (d := ![128]) (x 0))).symm
      · refine (emb_allRows inb _ 1).trans ?_
        exact Shape.Gathers.idx_of_ne hg _ x 1 Nat.one_ne_zero
    iexact Hd
  isplitl [Hs]
  · iexists f
    isplitr; · ipureintro; exact hf
    rw [← hset]; iexact Hs
  iexists o
  isplitr; · ipureintro; exact ho
  iexact Ho

/-- The wait for it. -/
theorem own_gatherWait (hO : ∀ g, O g none = 0) {n : Nat} {src : Hb ⟨2, ![n, 128]⟩ .f32} {dst : Vm S128x128 .f32} {hd : dst.view.WordExact}
    {inb : ∀ a, (![0, 0] : Fin 2 → Nat) a + (![n, 128] : Fin 2 → Nat) a ≤ (![n, 128] : Fin 2 → Nat) a} {rows : Vm S128 .i32} {sem : DmaSem sig}
    {q : PosShare TreeShare} {X : (⟨2, ![n, 128]⟩ : Shape).Idx → Elt F .f32} {R : S128.Idx → BitVec 32} {Z : S128x128.Idx → Elt F .f32} :
    Runs (α := α) d c s iprop(flying d c s src dst rows sem q X R Z ∗ due d c s O W) (gatherWait src dst hd inb sem)
      iprop((own d c s dst fullShare Z ∗ own d c s src q X ∗ own (F := F) d c s rows fullShare R) ∗ cell d c s sem ∗ due d c s O W) :=
  due_wait hO rfl

/-- A part of a memref taken out of it and put back. -/
theorem own_slice {M : Memref sig .scVector sp sh e} (r : Rect sh) (h : ∀ a, r.stride a = 1) {q : PosShare TreeShare} {X : sh.Idx → Elt F e} :
    own d c s M q X ⊢ iprop(own (sh := r.shape) d c s (M.slice r h) q (fun x => X (r.emb x)) ∗ (own (sh := r.shape) d c s (M.slice r h) q (fun x => X (r.emb x)) -∗ own d c s M q X)) := by
  unfold own
  iintro ⟨%f, %hf, H⟩
  ihave H := (pointsTo_split_subset (View.set_slice_subset (v := M.view) r)).1 $$ H
  icases H with ⟨H₁, H₂⟩
  isplitl [H₁]
  · iexists f
    isplitr; · ipureintro; exact funext fun x => congrFun hf (r.emb x)
    iexact H₁
  iintro ⟨%g, %hg, H₁⟩
  iexists f
  isplitr; · ipureintro; exact hf
  have e : ∀ i ∈ (M.slice r h).view.set, g i = f i := read_inj (M.slice r h) (hg.trans (funext fun x => (congrFun hf (r.emb x)).symm))
  ihave H₁ := (pts_congr e) $$ H₁
  iapply (pointsTo_split_subset (View.set_slice_subset (v := M.view) r)).2
  isplitl [H₁]; · iexact H₁
  iexact H₂

end Moves

end Cert.Proof
-- ==== Proof.Winner.lean ====
module
public import proofs.«01_k».proof.Defs

/-!
# Which write of a row stays

The last position at which a row is written, as a plain recursion over the positions; the table of those positions, how
one scatter of sixteen lanes takes it sixteen positions further, and that storing a position again where the table
already holds a later one changes nothing.
-/

@[expose] public section
noncomputable section

namespace Cert.Proof

open Cert.KernelIdeal Idealize.ShloMosaic

/-- One more than the last of the first `n` positions whose index is `x`; zero when there is none. -/
def winN (ix : Nat → Nat) : Nat → Nat → Nat
  | 0, _ => 0
  | n + 1, x => if ix n = x then n + 1 else winN ix n x

/-- The winner among the first `n` positions is at most `n`. -/
theorem winN_le (ix : Nat → Nat) (n x : Nat) : winN ix n x ≤ n := by
  induction n with
  | zero => exact Nat.le_refl _
  | succ n ih => rw [winN]; split <;> omega

/-- The winner of a row is not before any position that writes the row. -/
theorem winN_ge {ix : Nat → Nat} {n k : Nat} (h : k < n) : k + 1 ≤ winN ix n (ix k) := by
  induction n with
  | zero => omega
  | succ n ih =>
    rw [winN]; split
    · omega
    · next hne => exact ih (by rcases Nat.lt_succ_iff_lt_or_eq.1 h with h | h; exact h; exact absurd (by rw [h]) hne)

/-- The winner of a row writes the row. -/
theorem winN_eq {ix : Nat → Nat} {n x m : Nat} (h : winN ix n x = m + 1) : ix m = x ∧ m < n := by
  induction n with
  | zero => simp [winN] at h
  | succ n ih =>
    rw [winN] at h; split at h
    · next he => obtain rfl : n = m := by omega
                 exact ⟨he, by omega⟩
    · exact ⟨(ih h).1, by have := (ih h).2; omega⟩

/-- A left fold over all of `Fin n` keeps what every step keeps, the step's number counted along. -/
theorem foldl_finRange_inv {α : Type} {n : Nat} (f : α → Fin n → α) (a : α) (I : Nat → α → Prop) (h0 : I 0 a)
    (hs : ∀ (k : Fin n) b, I k.val b → I (k.val + 1) (f b k)) : I n ((List.finRange n).foldl f a) := by
  induction n with
  | zero => simpa using h0
  | succ n ih =>
    rw [List.finRange_succ_last, List.foldl_append, List.foldl_map]
    exact hs (Fin.last n) _ (ih (fun b k => f b k.castSucc) (fun k b hb => hs k.castSucc b hb))

/-- The words of a list of 16384 indices, by position. -/
def natOf (f : S16384.Idx → BitVec 32) (n : Nat) : Nat :=
  if h : n < 16384 then (f (Shape.ofLane (d := ![16384]) ⟨n, h⟩)).toNat else 0

/-- Every index of a rank-one shape is the lane of its one coordinate. -/
theorem ofLane_self {d : Fin 1 → Nat} (x : (⟨1, d⟩ : Shape).Idx) : Shape.ofLane (d := d) (x 0) = x := by
  funext a; rw [Fin.eq_zero a]; rfl

/-- The word at an index is the word at the index's position. -/
theorem natOf_idx (f : S16384.Idx → BitVec 32) (x : S16384.Idx) : natOf f (x 0).val = (f x).toNat := by
  have h : (x 0).val < 16384 := (x 0).isLt
  rw [natOf, dif_pos h]
  exact congrArg (fun y => (f y).toNat) (ofLane_self (d := ![16384]) x)

/-- The table of the winners among the first `n` positions, a word for each row. -/
def tblN (ix : Nat → Nat) (n : Nat) : S100000.Idx → BitVec 32 := fun j => BitVec.ofNat 32 (winN ix n (j 0).val)

variable {F : FTy → Type} [FloatOps F]

/-- One scatter of sixteen lanes, each writing its position plus one, takes the table sixteen positions further: of two
    lanes that name one row the higher is written last. -/
theorem storeIdx_tbl (ix : Nat → Nat) (n : Nat) (ind vals : IVec S16 32)
    (h : ∀ a x, ((![ind] : Fin 1 → IVec S16 32) a x).toNat < S100000.size a)
    (hix : ∀ x : S16.Idx, (ind x).toNat = ix (n + (x 0).val)) (hv : ∀ x : S16.Idx, vals x = BitVec.ofNat 32 (n + (x 0).val + 1)) :
    storeIdx (F := F) (s := S100000) (e := .i32) (d := ![16]) (tblN ix n) ![ind] vals (fun _ => 1#1) false h = tblN ix (n + 16) := by
  refine foldl_finRange_inv (n := 16) _ (tblN ix n) (fun k g => g = tblN ix (n + k)) rfl ?_
  intro k g hg
  subst hg
  dsimp only
  rw [if_pos (show (1#1 : BitVec 1) = 1 from rfl)]
  funext j
  have hk : (ind (Shape.ofLane (d := ![16]) k)).toNat = ix (n + k.val) := hix _
  have hval : vals (Shape.ofLane (d := ![16]) k) = BitVec.ofNat 32 (n + k.val + 1) := hv _
  have hiff : (∀ a, (j a).val = ((idxAt (s := S100000) ![ind] h (Shape.ofLane (d := ![16]) k)) a).val) ↔ ix (n + k.val) = (j 0).val := by
    constructor
    · intro ha
      have := ha 0
      rw [← hk]; exact this.symm
    · intro he a
      rw [Fin.eq_zero a]
      exact he.symm.trans hk.symm
  by_cases he : ix (n + k.val) = (j 0).val
  · rw [if_pos (hiff.2 he)]
    show (if false = true then _ else _) = _
    rw [if_neg (by decide), hval]
    show _ = BitVec.ofNat 32 (winN ix (n + k.val + 1) (j 0).val)
    rw [winN, if_pos he]
  · rw [if_neg (fun hh => he (hiff.1 hh))]
    show BitVec.ofNat 32 (winN ix (n + k.val) (j 0).val) = BitVec.ofNat 32 (winN ix (n + k.val + 1) (j 0).val)
    rw [winN, if_neg he]

/-- A scatter with no lane set leaves the table. -/
theorem storeIdx_none (T : Vec F S100000 .i32) (ind vals : IVec S16 32) (mask : IVec S16 1)
    (h : ∀ a x, ((![ind] : Fin 1 → IVec S16 32) a x).toNat < S100000.size a) (hm : ∀ x, mask x ≠ 1) :
    storeIdx (F := F) (s := S100000) (e := .i32) (d := ![16]) T ![ind] vals mask false h = T := by
  refine foldl_finRange_inv (n := 16) _ T (fun _ g => g = T) rfl ?_
  intro k g hg
  subst hg
  dsimp only
  rw [if_neg (hm _)]

/-- Small numbers compare as words the way they compare. -/
theorem slt_ofNat {a b : Nat} (ha : a < 2 ^ 31) (hb : b < 2 ^ 31) : (BitVec.ofNat 32 a).slt (BitVec.ofNat 32 b) = decide (a < b) := by
  rw [BitVec.slt, BitVec.toInt_eq_toNat_of_lt, BitVec.toInt_eq_toNat_of_lt, BitVec.toNat_ofNat, BitVec.toNat_ofNat, Nat.mod_eq_of_lt, Nat.mod_eq_of_lt]
  · simp
  all_goals first | omega | (simp only [BitVec.toNat_ofNat]; omega)

/-- Once every position has been written, the table holds at each lane's row at least the lane's position: no lane of
    the comparison "the table holds less than my position" is set. -/
theorem settled (ix : Nat → Nat) (n : Nat) (hn : n + 16 ≤ 16384) (ind vals : IVec S16 32)
    (h : ∀ a x, ((![ind] : Fin 1 → IVec S16 32) a x).toNat < S100000.size a)
    (hix : ∀ x : S16.Idx, (ind x).toNat = ix (n + (x 0).val)) (hv : ∀ x : S16.Idx, vals x = BitVec.ofNat 32 (n + (x 0).val + 1)) (x : S16.Idx) :
    cmpi .slt (loadIdx (F := F) (s := S100000) (e := .i32) (tblN ix 16384) ![ind] h) vals x ≠ 1 := by
  have hx : (x 0).val < 16 := (x 0).isLt
  have hge := winN_ge (ix := ix) (n := 16384) (k := n + (x 0).val) (by omega)
  have hle := winN_le ix 16384 (ix (n + (x 0).val))
  show BitVec.ofBool ((BitVec.ofNat 32 (winN ix 16384 (ind x).toNat)).slt (vals x)) ≠ 1#1
  rw [hix, hv, slt_ofNat (by omega) (by omega), decide_eq_false (by omega)]
  decide

/-- The winners of the rows read: at each position of the read list, the winner (of all positions) of the row named there. -/
def wVal (idx ridx : S16384.Idx → BitVec 32) : S16384.Idx → BitVec 32 := fun j => BitVec.ofNat 32 (winN (natOf idx) 16384 (ridx j).toNat)

end Cert.Proof
-- ==== Proof.WinnerRun.lean ====
module
public import proofs.«01_k».proof.Defs
public import proofs.«01_k».proof.Proof.Own
public import proofs.«01_k».proof.Proof.Winner

/-!
# The winner kernel on one tile

From the memrefs of a tile, whatever its own memory holds, the winner kernel ends with the winners of the tile's read
indices in the tile's part of the result, and everything it read unchanged.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

variable {d : Dev nD} {c : Fin τ.nSC} {s : Fin τ.nSub} {α : Type}

/-! ## Lists filled from the front -/

/-- The first `n` words from `A`, the others from `X`. -/
def fill {m : Nat} {β : Type} (n : Nat) (A X : (⟨1, ![m]⟩ : Shape).Idx → β) : (⟨1, ![m]⟩ : Shape).Idx → β := fun j => if (j 0).val < n then A j else X j

theorem fill_zero {m : Nat} {β : Type} (A X : (⟨1, ![m]⟩ : Shape).Idx → β) : fill 0 A X = X := funext fun _ => if_neg (Nat.not_lt_zero _)

theorem fill_full {m n : Nat} {β : Type} (h : m ≤ n) (A X : (⟨1, ![m]⟩ : Shape).Idx → β) : fill n A X = A :=
  funext fun j => if_pos (Nat.lt_of_lt_of_le (j 0).isLt h)

/-- The element at lane `x` of a group of sixteen. -/
theorem emb16 {m : Nat} {off : Fin 1 → Nat} {inb : ∀ a, off a + S16.size a ≤ (⟨1, ![m]⟩ : Shape).size a} {n : Nat} (ho : off = ![n])
    (x : (Rect.unit (s := ⟨1, ![m]⟩) off S16.size inb).shape.Idx) : ((Rect.unit (s := ⟨1, ![m]⟩) off S16.size inb).emb x 0).val = n + (x 0).val := by
  subst ho
  rw [Rect.emb_apply]
  show n + 1 * (x 0).val = _
  omega

/-- Sixteen words stored at position `n` of a list filled up to there fill it up to `n + 16`. -/
theorem own_fill {m : Nat} {e : EltTy} {M : Vm ⟨1, ![m]⟩ e} {off : Fin 1 → Nat} {inb : ∀ a, off a + S16.size a ≤ (⟨1, ![m]⟩ : Shape).size a}
    {n : Nat} (ho : off = ![n]) {A X : (⟨1, ![m]⟩ : Shape).Idx → Elt F e} {w : S16.Idx → Elt F e}
    {hx : (M.access (Rect.unit (s := ⟨1, ![m]⟩) off S16.size inb)).Stores Finset.univ}
    {hm : (Finset.univ : Finset (Rect.unit (s := ⟨1, ![m]⟩) off S16.size inb).shape.Idx) = Finset.univ ∨ ∀ a, (Rect.unit (s := ⟨1, ![m]⟩) off S16.size inb).stride a = 1}
    (hw : ∀ (x : S16.Idx) (j : (⟨1, ![m]⟩ : Shape).Idx), (j 0).val = n + (x 0).val → A j = w x) :
    Runs (α := α) d c s (own d c s M fullShare (fill n A X))
      (fun k => .op (.store M (Rect.unit (s := ⟨1, ![m]⟩) off S16.size inb) w Finset.univ hx hm) fun _ => k) (own d c s M fullShare (fill (n + 16) A X)) := by
  refine own_store ?_ ?_
  · intro x
    have hx : (x 0).val < 16 := (x 0).isLt
    have he := emb16 (inb := inb) ho x
    show (if _ then _ else _) = _
    rw [if_pos (by omega)]
    exact hw x _ he
  · intro j hj
    rw [Rect.mem_set_unit] at hj
    have hj : ¬ (n ≤ (j 0).val ∧ (j 0).val < n + 16) := by
      intro hh
      refine hj fun a => ?_
      rw [Fin.eq_zero a, ho]
      exact hh
    show (if _ then _ else _) = (if _ then _ else _)
    by_cases h : (j 0).val < n
    · rw [if_pos h, if_pos (by omega)]
    · rw [if_neg h, if_neg (by omega)]

/-! ## The loops' bodies -/

/-- One trip of the clearing loop. -/
theorem run_zero (T : Vm S100000 .i32) (X : S100000.Idx → BitVec 32) (t : Fin k0_t1_loop.trips) :
    own (F := F) d c s T fullShare (fill (160 * t.val) (fun _ => 0#32) X) ⊢ wpT (F := F) d c s (zeroBody T t) fun _ => own (F := F) d c s T fullShare (fill (160 * (t.val + 1)) (fun _ => 0#32) X) := by
  have h := Runs.upto (F := F) (d := d) (c := c) (s := s) (n := 10) (α := BitVec 32)
    (fun j => own (F := F) d c s T fullShare (fill (160 * t.val + 16 * j) (fun _ => 0#32) X))
    (fun r k =>
    Prog.op (.load T (Rect.unit (s := S100000) (k0_off2 t (BitVec.ofNat 32 r.val)) S16.size (k0_off2_inb t r)).toLoadRect (View.loadsAt_vmem h_S16)) fun _ =>
    Prog.op (.store T (Rect.unit (s := S100000) (k0_off2 t (BitVec.ofNat 32 r.val)) S16.size (k0_off2_inb t r)) zeros Finset.univ
      (View.stores_vmem_bits_univ h_S16 rfl) (.inl rfl)) fun _ => k)
    (by
      intro j k Q
      iintro H Hk
      iapply (own_load (fun _ => _) Q) $$ H
      iintro H
      iapply (own_fill (k0_off2_eq t j) (fun _ _ _ => rfl) k Q) $$ H
      iexact Hk)
  unfold zeroBody
  exact h.done _ (by rw [show 160 * (t.val + 1) = 160 * t.val + 16 * 10 by omega])

/-- The values a group stores: its positions plus one. -/
theorem posVals_eq {m : Nat} (hm : m < 1024) {g : BitVec 32} (hg : g = BitVec.ofNat 32 m) (x : S16.Idx) : posVals g x = BitVec.ofNat 32 (16 * m + (x 0).val + 1) := by
  have hx : (x 0).val < 16 := (x 0).isLt
  subst hg
  show BitVec.ofNat 32 m * 16#32 + BitVec.ofNat 32 (0 * 16 + (x 0).val) + 1#32 = _
  apply BitVec.eq_of_toNat_eq
  simp only [BitVec.toNat_add, BitVec.toNat_mul, BitVec.toNat_ofNat]
  omega

/-- What the winner loops hold: the table, and all the indices. -/
def tabs (d : Dev nD) (c : Fin τ.nSC) (s : Fin τ.nSub) (T : Vm S100000 .i32) (I : Vm S16384 .i32) (idx : S16384.Idx → BitVec 32) (n : Nat) : sProp 𝕄 :=
  iprop(own (F := F) d c s T fullShare (tblN (natOf idx) n) ∗ own (F := F) d c s I fullShare idx)

/-- The sixteen indices of a group are the list's. -/
theorem natOf_emb {off : Fin 1 → Nat} {inb : ∀ a, off a + S16.size a ≤ S16384.size a} {n : Nat} (ho : off = ![n]) (idx : S16384.Idx → BitVec 32) (x : S16.Idx) :
    (idx ((Rect.unit (s := S16384) off S16.size inb).emb x)).toNat = natOf idx (n + (x 0).val) := by
  rw [← natOf_idx, emb16 ho]

/-- One group's scatter. -/
theorem run_scat {T : Vm S100000 .i32} {I : Vm S16384 .i32} {idx : S16384.Idx → BitVec 32} (hidx : ∀ x, (idx x).toNat < 100000)
    {g : BitVec 32} {off : Fin 1 → Nat} {inb : ∀ a, off a + S16.size a ≤ S16384.size a} {m : Nat} (hm : m < 1024) (ho : off = ![16 * m]) (hg : g = BitVec.ofNat 32 m) :
    Runs (α := α) d c s (tabs (F := F) d c s T I idx (16 * m)) (scatStep T I g off inb) (tabs (F := F) d c s T I idx (16 * m + 16)) := by
  intro k Q
  unfold tabs scatStep
  iintro ⟨HT, HI⟩ Hk
  iapply (own_load _ Q) $$ HI
  iintro HI
  have hin : ∀ x : S16.Idx, (idx ((Rect.unit (s := S16384) off S16.size inb).emb x)).toNat < 100000 := fun x => hidx _
  have hchk : k0_chk1 (fun x => idx ((Rect.unit (s := S16384) off S16.size inb).emb x)) := by
    intro a x
    rw [Fin.eq_zero a]
    exact hin x
  iapply (wp_assume 𝒱₀ (V d c s) none Set.univ hchk)
  iapply (own_storeIdx (F := F) (storeIdx_tbl (F := F) (natOf idx) (16 * m) _ _ hchk (natOf_emb ho idx) (posVals_eq hm hg)) k Q) $$ HT
  iintro HT
  iapply Hk
  isplitl [HT] <;> iassumption

/-- The group number of a step. -/
theorem grp_val (t b j : Nat) :
    Scalar.addi (Scalar.muli (Scf.iv 0#32 1#32 t) (BitVec.ofNat 32 b)) (BitVec.ofNat 32 j) = BitVec.ofNat 32 (t * b + j) := by
  show (0#32 + BitVec.ofNat 32 t * 1#32) * BitVec.ofNat 32 b + BitVec.ofNat 32 j = _
  rw [BitVec.zero_add, BitVec.mul_one, BitVec.ofNat_add, BitVec.ofNat_mul]

/-- One trip of the scatter loop. -/
theorem run_scatBody {T : Vm S100000 .i32} {I : Vm S16384 .i32} {idx : S16384.Idx → BitVec 32} (hidx : ∀ x, (idx x).toNat < 100000) (t : Fin k0_t2_loop.trips) :
    tabs (F := F) d c s T I idx (128 * t.val) ⊢ wpT (F := F) d c s (scatBody T I t) fun _ => tabs (F := F) d c s T I idx (128 * (t.val + 1)) := by
  have ht : t.val < 128 := t.isLt
  have hoff : ∀ j : Fin 8, (![k0_off3 t, k0_off4 t, k0_off5 t, k0_off6 t, k0_off7 t, k0_off8 t, k0_off9 t, k0_off10 t] : Fin 8 → Fin 1 → Nat) j
      = ![128 * t.val + 16 * j.val] := by
    intro j
    match j with
    | 0 => exact k0_off3_eq t | 1 => exact k0_off4_eq t | 2 => exact k0_off5_eq t | 3 => exact k0_off6_eq t
    | 4 => exact k0_off7_eq t | 5 => exact k0_off8_eq t | 6 => exact k0_off9_eq t | 7 => exact k0_off10_eq t
  have hinb : ∀ j : Fin 8, ∀ a, (![k0_off3 t, k0_off4 t, k0_off5 t, k0_off6 t, k0_off7 t, k0_off8 t, k0_off9 t, k0_off10 t] : Fin 8 → Fin 1 → Nat) j a
      + S16.size a ≤ S16384.size a := by
    intro j a
    have hj : j.val < 8 := j.isLt
    rw [hoff j, Fin.eq_zero a]
    show 128 * t.val + 16 * j.val + 16 ≤ 16384
    omega
  have h := Runs.upto (F := F) (d := d) (c := c) (s := s) (n := 8) (α := BitVec 32)
    (fun j => tabs (F := F) d c s T I idx (128 * t.val + 16 * j))
    (fun j k => scatStep T I (Scalar.addi (Scalar.muli (Scf.iv 0#32 1#32 t.val) 8#32) (BitVec.ofNat 32 j.val))
      ((![k0_off3 t, k0_off4 t, k0_off5 t, k0_off6 t, k0_off7 t, k0_off8 t, k0_off9 t, k0_off10 t] : Fin 8 → Fin 1 → Nat) j) (hinb j) k)
    (by
      intro j
      have hj : j.val < 8 := j.isLt
      rw [show 128 * t.val + 16 * j.val = 16 * (t.val * 8 + j.val) by omega, show 128 * t.val + 16 * (j.val + 1) = 16 * (t.val * 8 + j.val) + 16 by omega]
      exact run_scat hidx (m := t.val * 8 + j.val) (by omega) ((hoff j).trans (by congr 1; omega)) (grp_val t.val 8 j.val))
  unfold scatBody
  exact h.done _ (by rw [show 128 * (t.val + 1) = 128 * t.val + 16 * 8 by omega])

/-- One group's rounds, after every position has been written: nothing is stored. -/
theorem run_fix {T : Vm S100000 .i32} {I : Vm S16384 .i32} {idx : S16384.Idx → BitVec 32} (hidx : ∀ x, (idx x).toNat < 100000)
    {g : BitVec 32} {off : Fin 1 → Nat} {inb : ∀ a, off a + S16.size a ≤ S16384.size a} {m : Nat} (hm : m < 1024) (ho : off = ![16 * m]) (hg : g = BitVec.ofNat 32 m) :
    Runs (α := α) d c s (tabs (F := F) d c s T I idx 16384) (fixStep T I g off inb) (tabs (F := F) d c s T I idx 16384) := by
  intro k Q
  unfold tabs fixStep
  iintro ⟨HT, HI⟩ Hk
  iapply (own_load _ Q) $$ HI
  iintro HI
  have hin : ∀ x : S16.Idx, (idx ((Rect.unit (s := S16384) off S16.size inb).emb x)).toNat < 100000 := fun x => hidx _
  generalize hind : (fun x => idx ((Rect.unit (s := S16384) off S16.size inb).emb x)) = ind
  have hix : ∀ x : S16.Idx, (ind x).toNat = natOf idx (16 * m + (x 0).val) := by subst hind; exact natOf_emb ho idx
  have hchk₁ : ∀ a x, ((![ind] : Fin 1 → IVec S16 32) a x).toNat < S100000.size a := by
    intro a x
    rw [Fin.eq_zero a, ← hind]
    exact hin x
  have hchk : k0_chk9 ind := ⟨hchk₁, hchk₁, hchk₁⟩
  iapply (wp_assume 𝒱₀ (V d c s) none Set.univ hchk)
  iapply (own_loadIdx (F := F) (h := hchk.1) _ Q) $$ HT
  iintro HT
  iapply (wp_loop (F := F) loop16 k0_t4_ok (loadIdx (F := F) (tblN (natOf idx) 16384) ![ind] hchk₁) (fun _ a => fixRound T ind (posVals g) hchk a)
    (fun _ a => iprop(⌜a = loadIdx (F := F) (tblN (natOf idx) 16384) ![ind] hchk₁⌝ ∗ own (F := F) d c s T fullShare (tblN (natOf idx) 16384))) ?_ (fun _ => k) Q) $$ [HT]
  · intro t a
    unfold fixRound
    iintro ⟨%ha, HT⟩
    subst ha
    iapply (own_storeIdx (F := F) (storeIdx_none (F := F) _ _ _ _ hchk.2.1
      (settled (F := F) (natOf idx) (16 * m) (by omega) ind (posVals g) hchk₁ hix (posVals_eq hm hg))) _ _) $$ HT
    iintro HT
    rw [← bind_pure (SparseCore.vectorLoadIdx T ![ind] hchk.2.2 (View.loads_vmem h_S100000) : Prog (Tile F c s) _)]
    iapply (own_loadIdx (F := F) (h := hchk.2.2) _ _) $$ HT
    iintro HT
    iapply wpT_ret
    isplitr; · ipureintro; rfl
    iexact HT
  · isplitr; · ipureintro; rfl
    iexact HT
  iintro %a ⟨%ha, HT⟩
  iapply Hk
  isplitl [HT] <;> iassumption

/-- One trip of the settling loop. -/
theorem run_fixBody {T : Vm S100000 .i32} {I : Vm S16384 .i32} {idx : S16384.Idx → BitVec 32} (hidx : ∀ x, (idx x).toNat < 100000) (t : Fin k0_t3_loop.trips) :
    tabs (F := F) d c s T I idx 16384 ⊢ wpT (F := F) d c s (fixBody T I t) fun _ => tabs (F := F) d c s T I idx 16384 := by
  have ht : t.val < 256 := t.isLt
  unfold fixBody
  refine BI.BIBase.Entails.trans ?_ (BI.BIBase.Entails.of_eq (wp_bind _ _ _ _ _ _).symm)
  have h (j : Nat) (hj : j < 4) : grp4 (Scf.iv 0#32 1#32 t.val) j = BitVec.ofNat 32 (t.val * 4 + j) := grp_val t.val 4 j
  have e (j : Nat) : (![64 * t.val + 16 * j] : Fin 1 → Nat) = ![16 * (t.val * 4 + j)] := by congr 1; omega
  iintro H
  unfold fixHalf
  iapply (((run_fix (F := F) hidx (by omega) ((k0_off11_eq t).trans (e 0)) (h 0 (by omega))).comp
    (run_fix (F := F) hidx (by omega) ((k0_off12_eq t).trans (e 1)) (h 1 (by omega)))).done _ ?_) $$ H
  iintro H
  iapply (((run_fix (F := F) hidx (by omega) ((k0_off13_eq t).trans (e 2)) (h 2 (by omega))).comp
    (run_fix (F := F) hidx (by omega) ((k0_off14_eq t).trans (e 3)) (h 3 (by omega)))).done _ ?_) $$ H
  iintro H
  iexact H

/-- The winners a list of read indices gets. -/
def winOf (idx : S16384.Idx → BitVec 32) {sh : Shape} (R : sh.Idx → BitVec 32) : sh.Idx → BitVec 32 :=
  fun x => BitVec.ofNat 32 (winN (natOf idx) 16384 (R x).toNat)

/-- What the reading loop holds. -/
def reads (d : Dev nD) (c : Fin τ.nSC) (s : Fin τ.nSub) (T : Vm S100000 .i32) (R O : Vm S512 .i32) (idx : S16384.Idx → BitVec 32)
    (L X : S512.Idx → BitVec 32) (n : Nat) : sProp 𝕄 :=
  iprop(own (F := F) d c s T fullShare (tblN (natOf idx) 16384) ∗ own (F := F) d c s R fullShare L ∗ own (F := F) d c s O fullShare (fill n (winOf idx L) X))

/-- One trip of the reading loop. -/
theorem run_readBody {T : Vm S100000 .i32} {R O : Vm S512 .i32} {idx : S16384.Idx → BitVec 32} {L X : S512.Idx → BitVec 32} (hL : ∀ x, (L x).toNat < 100000)
    (t : Fin k0_t8_loop.trips) :
    reads (F := F) d c s T R O idx L X (16 * t.val) ⊢ wpT (F := F) d c s (readBody T R O t) fun _ => reads (F := F) d c s T R O idx L X (16 * (t.val + 1)) := by
  unfold reads readBody
  iintro ⟨HT, HR, HO⟩
  iapply (own_load _ _) $$ HR
  iintro HR
  have hchk : ∀ a x, ((![fun x => L ((Rect.unit (s := S512) (k0_off15 t) S16.size (k0_off15_inb t)).emb x)] : Fin 1 → IVec S16 32) a x).toNat < S100000.size a := by
    intro a x
    rw [Fin.eq_zero a]
    exact hL _
  iapply (wp_assume 𝒱₀ (V d c s) none Set.univ hchk)
  iapply (own_loadIdx (F := F) (h := hchk) _ _) $$ HT
  iintro HT
  iapply (own_load (fun _ => _) _) $$ HO
  iintro HO
  iapply (own_fill (k0_off16_eq t) ?_ _ _) $$ HO
  · intro x j hj
    show BitVec.ofNat 32 (winN (natOf idx) 16384 (L j).toNat) = BitVec.ofNat 32 (winN (natOf idx) 16384 (L _).toNat)
    refine congrArg (fun y => BitVec.ofNat 32 (winN (natOf idx) 16384 (L y).toNat)) ?_
    funext a
    rw [Fin.eq_zero a]
    exact Fin.ext (hj.trans (emb16 (k0_off15_eq t) x).symm)
  iintro HO
  iapply wpT_ret
  isplitl [HT]; · iexact HT
  isplitl [HR]; · iexact HR
  rw [Nat.mul_succ]
  iexact HO

/-! ## The kernel -/

/-- A memref of the tile held at some contents. -/
abbrev held (d : Dev nD) (c : Fin τ.nSC) (s : Fin τ.nSub) {sp : Space} {sh : Shape} {e : EltTy} (M : Memref sig .scVector sp sh e) : sProp 𝕄 :=
  iprop(∃ X, own (F := F) d c s M fullShare X)

theorem run_winner (d : Dev nD) (i : grid0.Coords) (arg2 : Hb S16384 .i32) (harg2 : arg2.IsWhole) (arg3 : Hb S16384 .i32) (harg3 : arg3.IsWhole) (arg4 : Hb S16384 .i32)
    (harg4 : arg4.IsWhole) (arg5 : Vm S100000 .i32) (harg5 : arg5.IsWhole) (arg6 : Vm S16384 .i32) (harg6 : arg6.IsWhole) (arg7 : Vm S512 .i32)
    (harg7 : arg7.IsWhole) (arg8 : Vm S512 .i32) (harg8 : arg8.IsWhole) (v13_r0 : DmaSems sig S_) (v13_r1 : DmaSems sig S_) (v13_r2 : DmaSems sig S_)
    {O : CellTallies nD τ sig (HIx 2)} {W : Waits sig (HIx 2)} (hO : ∀ g, O g none = 0) {q q' : PosShare TreeShare}
    {idx : S16384.Idx → BitVec 32} {L Y : S512.Idx → BitVec 32} (hidx : ∀ x, (idx x).toNat < 100000) (hL : ∀ x, (L x).toNat < 100000) :
    iprop(own (F := F) d ((i 0).castLE hcore0) ((i 1).castLE hsub0) arg2 q idx
        ∗ own (F := F) (sh := S512) d ((i 0).castLE hcore0) ((i 1).castLE hsub0) (arg3.slice (Rect.unit (s := S16384) (k0_off1 i) S512.size (k0_off1_inb i)) (fun _ => rfl)) q' L
        ∗ own (F := F) (sh := S512) d ((i 0).castLE hcore0) ((i 1).castLE hsub0) (arg4.slice (Rect.unit (s := S16384) (k0_off1 i) S512.size (k0_off1_inb i)) (fun _ => rfl)) fullShare Y
        ∗ held (F := F) d ((i 0).castLE hcore0) ((i 1).castLE hsub0) arg5 ∗ held (F := F) d ((i 0).castLE hcore0) ((i 1).castLE hsub0) arg6
        ∗ held (F := F) d ((i 0).castLE hcore0) ((i 1).castLE hsub0) arg7 ∗ held (F := F) d ((i 0).castLE hcore0) ((i 1).castLE hsub0) arg8
        ∗ cell (F := F) d ((i 0).castLE hcore0) ((i 1).castLE hsub0) v13_r0.sem ∗ cell (F := F) d ((i 0).castLE hcore0) ((i 1).castLE hsub0) v13_r1.sem
        ∗ cell (F := F) d ((i 0).castLE hcore0) ((i 1).castLE hsub0) v13_r2.sem ∗ due (F := F) d ((i 0).castLE hcore0) ((i 1).castLE hsub0) O W)
      ⊢ wpT (F := F) d ((i 0).castLE hcore0) ((i 1).castLE hsub0)
        (winnerProg i arg2 harg2 arg3 harg3 arg4 harg4 arg5 harg5 arg6 harg6 arg7 harg7 arg8 harg8 v13_r0 v13_r1 v13_r2) fun _ =>
    iprop(own (F := F) d ((i 0).castLE hcore0) ((i 1).castLE hsub0) arg2 q idx
        ∗ own (F := F) (sh := S512) d ((i 0).castLE hcore0) ((i 1).castLE hsub0) (arg3.slice (Rect.unit (s := S16384) (k0_off1 i) S512.size (k0_off1_inb i)) (fun _ => rfl)) q' L
        ∗ own (F := F) (sh := S512) d ((i 0).castLE hcore0) ((i 1).castLE hsub0) (arg4.slice (Rect.unit (s := S16384) (k0_off1 i) S512.size (k0_off1_inb i)) (fun _ => rfl)) fullShare (winOf idx L)
        ∗ held (F := F) d ((i 0).castLE hcore0) ((i 1).castLE hsub0) arg5 ∗ held (F := F) d ((i 0).castLE hcore0) ((i 1).castLE hsub0) arg6
        ∗ held (F := F) d ((i 0).castLE hcore0) ((i 1).castLE hsub0) arg7 ∗ held (F := F) d ((i 0).castLE hcore0) ((i 1).castLE hsub0) arg8
        ∗ cell (F := F) d ((i 0).castLE hcore0) ((i 1).castLE hsub0) v13_r0.sem ∗ cell (F := F) d ((i 0).castLE hcore0) ((i 1).castLE hsub0) v13_r1.sem
        ∗ cell (F := F) d ((i 0).castLE hcore0) ((i 1).castLE hsub0) v13_r2.sem ∗ due (F := F) d ((i 0).castLE hcore0) ((i 1).castLE hsub0) O W) := by
  unfold winnerProg
  iintro ⟨H2, H3, H4, ⟨%X5, H5⟩, ⟨%X6, H6⟩, ⟨%X7, H7⟩, ⟨%X8, H8⟩, C0, C1, C2, HO⟩
  iapply (own_copyWait (F := F) hO (by decide) _ _) $$ [H2 H6 C0 HO]
  · isplitl [H2]; · iexact H2
    isplitl [H6]; · iexact H6
    isplitl [C0]; · iexact C0
    iexact HO
  iintro ⟨H2, H6, C0, HO⟩
  iapply (own_copyWait (F := F) hO (show 0 < S512.numel by decide) _ _) $$ [H3 H7 C1 HO]
  · isplitl [H3]; · iexact H3
    isplitl [H7]; · iexact H7
    isplitl [C1]; · iexact C1
    iexact HO
  iintro ⟨H3, H7, C1, HO⟩
  iapply (wp_loop (F := F) k0_t1_loop k0_t1_ok 0#32 (fun t _ => zeroBody arg5 t)
    (fun n _ => own (F := F) d ((i 0).castLE hcore0) ((i 1).castLE hsub0) arg5 fullShare (fill (160 * n) (fun _ => 0#32) X5)) (fun t _ => run_zero arg5 X5 t) _ _) $$ [H5]
  · rw [Nat.mul_zero, fill_zero]; iexact H5
  iintro %_ H5
  rw [fill_full (show 100000 ≤ 160 * k0_t1_loop.trips by decide)]
  iapply (wp_loop (F := F) k0_t2_loop k0_t2_ok 0#32 (fun t _ => scatBody arg5 arg6 t)
    (fun n _ => tabs (F := F) d ((i 0).castLE hcore0) ((i 1).castLE hsub0) arg5 arg6 idx (128 * n)) (fun t _ => run_scatBody hidx t) _ _) $$ [H5 H6]
  · unfold tabs
    isplitl [H5]; · iexact H5
    iexact H6
  iintro %_ H
  rw [show 128 * k0_t2_loop.trips = 16384 by decide]
  iapply (wp_loop (F := F) k0_t3_loop k0_t3_ok 0#32 (fun t _ => fixBody arg5 arg6 t)
    (fun n _ => tabs (F := F) d ((i 0).castLE hcore0) ((i 1).castLE hsub0) arg5 arg6 idx 16384) (fun t _ => run_fixBody hidx t) _ _) $$ [H]
  · iexact H
  iintro %_ H
  unfold tabs
  icases H with ⟨H5, H6⟩
  iapply (wp_loop (F := F) k0_t8_loop k0_t8_ok 0#32 (fun t _ => readBody arg5 arg7 arg8 t)
    (fun n _ => reads (F := F) d ((i 0).castLE hcore0) ((i 1).castLE hsub0) arg5 arg7 arg8 idx L X8 (16 * n)) (fun t _ => run_readBody hL t) _ _) $$ [H5 H7 H8]
  · unfold reads
    isplitl [H5]; · iexact H5
    isplitl [H7]; · iexact H7
    rw [Nat.mul_zero, fill_zero]; iexact H8
  unfold reads
  iintro %_ ⟨H5, H7, H8⟩
  rw [fill_full (show 512 ≤ 16 * k0_t8_loop.trips by decide)]
  iapply (own_copyWait (F := F) hO (show 0 < S512.numel by decide) _ _) $$ [H8 H4 C2 HO]
  · isplitl [H8]; · iexact H8
    isplitl [H4]; · iexact H4
    isplitl [C2]; · iexact C2
    iexact HO
  iintro ⟨H8, H4, C2, HO⟩
  iapply wpT_ret
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [C0]; · iexact C0
  isplitl [C1]; · iexact C1
  isplitl [C2]; · iexact C2
  iexact HO

end Cert.Proof
-- ==== Proof.RowRun.lean ====
module
public import proofs.«01_k».proof.Defs
public import proofs.«01_k».proof.Proof.Own
public import proofs.«01_k».proof.Proof.Winner
public import proofs.«01_k».proof.Proof.WinnerRun
public import Idealize.ShloMosaic.Lib.Pipeline.Value

/-!
# The row kernel's loops on one tile

The lists of rows a tile makes, and the blend of the rows gathered by them, for any of the four blocks and any buffers.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

variable {d : Dev nD} {c : Fin τ.nSC} {s : Fin τ.nSub} {α : Type}

/-! ## The offsets, for every block at once -/

theorem roff_eq : ∀ (b : Fin 4) (t : Fin loop8.trips), roff b t = ![16 * t.val + 128 * b.val] := by decide +kernel
theorem loff_eq : ∀ (b : Fin 4) (t : Fin loop8.trips), loff b t = ![16 * t.val] := by decide +kernel
theorem woff_eq : ∀ (b : Fin 4) (t : Fin loop8.trips), woff b t = ![16 * t.val + 128 * b.val] := by decide +kernel
theorem boff_eq : ∀ (b : Fin 4) (q : Fin 8) (t : Fin loop8.trips) (r : Fin 16), boff b q t (BitVec.ofNat 32 r.val) = ![16 * t.val + r.val, 16 * q.val] := by decide +kernel

/-! ## The lists -/

/-- Block `b` of a tile's list of 512 words. -/
def blk {β : Type} (f : S512.Idx → β) (b : Fin 4) (n : Fin 128) : β := f (Shape.ofLane (d := ![512]) ⟨128 * b.val + n.val, by have := b.isLt; have := n.isLt; show _ < 512; omega⟩)

/-- A word of a list of 512 is its block's. -/
theorem blk_eq {β : Type} (f : S512.Idx → β) (b : Fin 4) (n : Fin 128) (x : S512.Idx) (h : (x 0).val = 128 * b.val + n.val) : f x = blk f b n := by
  refine congrArg f ?_
  funext a
  rw [Fin.eq_zero a]
  exact Fin.ext h

/-- The value row a position reads: its winner, or (nothing written) the position itself. -/
def vRow (base : BitVec 32) (w : BitVec 32) (n : Nat) : BitVec 32 :=
  Scalar.select (IntOp.cmpi .sgt w 0#32) (w - 1#32) (base + BitVec.ofNat 32 n)

/-- The list of memory rows of block `b`, -/
def mList (L : S512.Idx → BitVec 32) (b : Fin 4) : S128.Idx → BitVec 32 := fun x => blk L b (x 0)

/-- and of value rows. -/
def vList (base : BitVec 32) (Wn : S512.Idx → BitVec 32) (b : Fin 4) : S128.Idx → BitVec 32 := fun x => vRow base (blk Wn b (x 0)) (128 * b.val + (x 0).val)

/-- What the splitting loop holds. -/
def splits (d : Dev nD) (c : Fin τ.nSC) (s : Fin τ.nSub) (R W : Vm S512 .i32) (mI vI : Vm S128 .i32) (L Wn : S512.Idx → BitVec 32) (base : BitVec 32) (b : Fin 4)
    (X Y : S128.Idx → BitVec 32) (n : Nat) : sProp 𝕄 :=
  iprop(own (F := F) d c s R fullShare L ∗ own (F := F) d c s W fullShare Wn ∗ own (F := F) d c s mI fullShare (fill n (mList L b) X)
    ∗ own (F := F) d c s vI fullShare (fill n (vList base Wn b) Y))

/-- The position a lane of a trip of block `b` stands for. -/
theorem pos_eq (base : BitVec 32) (b t x : Nat) :
    (base + BitVec.ofNat 32 (128 * b)) + (0#32 + BitVec.ofNat 32 t * 1#32) * 16#32 + BitVec.ofNat 32 (0 * 16 + x) = base + BitVec.ofNat 32 (128 * b + (16 * t + x)) := by
  rw [BitVec.zero_add, BitVec.mul_one, Nat.zero_mul, Nat.zero_add, BitVec.ofNat_add, BitVec.ofNat_add, Nat.mul_comm 16 t, show BitVec.ofNat 32 (t * 16) = BitVec.ofNat 32 t * 16#32 from BitVec.ofNat_mul .., BitVec.add_assoc, BitVec.add_assoc]

/-- One trip of the splitting loop. -/
theorem run_splitBody {R W : Vm S512 .i32} {mI vI : Vm S128 .i32} {L Wn : S512.Idx → BitVec 32} {base : BitVec 32} (b : Fin 4)
    {X Y : S128.Idx → BitVec 32} (t : Fin loop8.trips) :
    splits (F := F) d c s R W mI vI L Wn base b X Y (16 * t.val)
      ⊢ wpT (F := F) d c s (splitBody R W mI vI (Scalar.addi base (BitVec.ofNat 32 (128 * b.val))) (roff b) (roff_inb b) (loff b) (loff_inb b) t) fun _ =>
        splits (F := F) d c s R W mI vI L Wn base b X Y (16 * (t.val + 1)) := by
  have hr := roff_eq b t
  have hl := loff_eq b t
  have hat : ∀ (x : S16.Idx) (j : S128.Idx), (j 0).val = 16 * t.val + (x 0).val → ∀ f : S512.Idx → BitVec 32,
      blk f b (j 0) = f ((Rect.unit (s := S512) (roff b t) S16.size (roff_inb b t)).emb x) := by
    intro x j hj f
    refine (blk_eq f b (j 0) _ ?_).symm
    rw [emb16 hr, hj]
    omega
  unfold splits splitBody
  iintro ⟨HR, HW, Hm, Hv⟩
  iapply (own_load _ _) $$ HR
  iintro HR
  iapply (own_load _ _) $$ HW
  iintro HW
  iapply (own_load (fun _ => _) _) $$ Hm
  iintro Hm
  iapply (own_fill hl (A := mList L b) ?_ _ _) $$ Hm
  · intro x j hj
    exact hat x j hj L
  iintro Hm
  iapply (own_load (fun _ => _) _) $$ Hv
  iintro Hv
  iapply (own_fill hl (A := vList base Wn b) ?_ _ _) $$ Hv
  · intro x j hj
    show vRow base (blk Wn b (j 0)) (128 * b.val + (j 0).val) = Scalar.select (IntOp.cmpi .sgt (Wn _) 0#32) (Wn _ - 1#32) _
    rw [hat x j hj Wn, hj]
    unfold vRow
    rw [← pos_eq]
    rfl
  iintro Hv
  iapply wpT_ret
  rw [Nat.mul_succ]
  isplitl [HR]; · iexact HR
  isplitl [HW]; · iexact HW
  isplitl [Hm]; · iexact Hm
  iexact Hv

/-! ## The blend -/

/-- The elements before position `n`, in row-major order, from `A`, the others from `X`. -/
def mix {β : Type} (n : Nat) (A X : S128x128.Idx → β) : S128x128.Idx → β := fun j => if 128 * (j 0).val + (j 1).val < n then A j else X j

theorem mix_zero {β : Type} (A X : S128x128.Idx → β) : mix 0 A X = X := funext fun _ => if_neg (Nat.not_lt_zero _)

theorem mix_full {β : Type} (A X : S128x128.Idx → β) : mix 16384 A X = A := funext fun j => if_pos (by
  have h0 : (j 0).val < 128 := (j 0).isLt
  have h1 : (j 1).val < 128 := (j 1).isLt
  omega)

/-- A row of a block: the value row where something was written, the memory row elsewhere. -/
def blend {β : Type} (Wn : S512.Idx → BitVec 32) (b : Fin 4) (Vr Mr : S128x128.Idx → β) : S128x128.Idx → β :=
  fun j => Scalar.select (IntOp.cmpi .sgt (blk Wn b (j 0)) 0#32) (Vr j) (Mr j)

/-- The element at lane `x` of a group of sixteen of a row. -/
theorem emb1x16 {off : Fin 2 → Nat} {inb : ∀ a, off a + S1x16.size a ≤ S128x128.size a} {r q : Nat} (ho : off = ![r, q])
    (x : (Rect.unit (s := S128x128) off S1x16.size inb).shape.Idx) :
    ((Rect.unit (s := S128x128) off S1x16.size inb).emb x 0).val = r ∧ ((Rect.unit (s := S128x128) off S1x16.size inb).emb x 1).val = q + (x 1).val := by
  subst ho
  have h0 : (x 0).val < 1 := (x 0).isLt
  rw [Rect.emb_apply, Rect.emb_apply]
  constructor
  · show r + 1 * (x 0).val = r; omega
  · show q + 1 * (x 1).val = _; omega

/-- What the blending loop holds. -/
def blends (d : Dev nD) (c : Fin τ.nSC) (s : Fin τ.nSub) (M Vb : Vm S128x128 .f32) (A Vr Mr : S128x128.Idx → Elt F .f32) (n : Nat) : sProp 𝕄 :=
  iprop(own (F := F) d c s M fullShare (mix n A Mr) ∗ own (F := F) d c s Vb fullShare Vr)

/-- One group of sixteen words of a row. -/
theorem run_grp {M Vb : Vm S128x128 .f32} {Wn : S512.Idx → BitVec 32} {b : Fin 4} {Vr Mr : S128x128.Idx → Elt F .f32} {msk : IVec S16 1}
    {off : Fin 2 → Nat} {inb : ∀ a, off a + S1x16.size a ≤ S128x128.size a} {r q : Nat} (hr : r < 128) (hq : q + 16 ≤ 128) (ho : off = ![r, q])
    (hm : ∀ x, msk x = IntOp.cmpi .sgt (blk Wn b ⟨r, hr⟩) 0#32) :
    Runs (α := α) d c s (blends d c s M Vb (blend Wn b Vr Mr) Vr Mr (128 * r + q)) (grp M Vb msk off inb)
      (blends d c s M Vb (blend Wn b Vr Mr) Vr Mr (128 * r + q + 16)) := by
  intro k Q
  unfold blends grp
  iintro ⟨HM, HV⟩ Hk
  iapply (own_load _ _) $$ HM
  iintro HM
  iapply (own_load _ _) $$ HV
  iintro HV
  iapply (own_load (fun _ => _) _) $$ HM
  iintro HM
  iapply (own_store (Y := mix (128 * r + q + 16) (blend Wn b Vr Mr) Mr) ?_ ?_ _ _) $$ HM
  · intro x
    obtain ⟨e0, e1⟩ := emb1x16 (inb := inb) ho x
    have hx : (x 1).val < 16 := (x 1).isLt
    have hsx : ∀ (v : S1x16.Idx → Elt F .f32), shapeCast S16 v shapeCasts_S1x16_S16 (fun a => x a.succ) = v x := by
      intro v
      refine (shapeCast_dropUnit_apply ![16] v shapeCasts_S1x16_S16 (fun a => x a.succ)).trans ?_
      refine congrArg v ?_
      funext a
      match a with
      | ⟨0, _⟩ => exact Fin.ext (by have h0 : (x 0).val < 1 := (x 0).isLt; show 0 = (x 0).val; omega)
      | ⟨1, _⟩ => rfl
    refine Eq.trans ?_ (shapeCast_addUnit_apply ![16] _ shapeCasts_S16_S1x16 x).symm
    show (if _ then _ else _) = Scalar.select (msk (fun a => x a.succ)) (shapeCast S16 _ shapeCasts_S1x16_S16 (fun a => x a.succ)) (shapeCast S16 _ shapeCasts_S1x16_S16 (fun a => x a.succ))
    rw [if_pos (by rw [e0, e1]; omega), hsx, hsx]
    refine Eq.trans ?_ (congrArg (fun m => Scalar.select m _ _) (hm _).symm)
    show Scalar.select _ _ _ = Scalar.select _ _ (if _ then _ else _)
    rw [if_neg (by rw [e0, e1]; omega), show (Rect.unit (s := S128x128) off S1x16.size inb).emb x 0 = (⟨r, hr⟩ : Fin 128) from Fin.ext e0]
  · intro j hj
    rw [Rect.mem_set_unit] at hj
    have h1 : (j 1).val < 128 := (j 1).isLt
    have hj : ¬ ((j 0).val = r ∧ q ≤ (j 1).val ∧ (j 1).val < q + 16) := by
      rintro ⟨ha, hb, hc⟩
      refine hj fun a => ?_
      subst ho
      match a with
      | ⟨0, _⟩ => exact ⟨by show r ≤ (j 0).val; omega, by show (j 0).val < r + 1; omega⟩
      | ⟨1, _⟩ => exact ⟨hb, hc⟩
    show (if _ then _ else _) = (if _ then _ else _)
    by_cases h : 128 * (j 0).val + (j 1).val < 128 * r + q
    · rw [if_pos h, if_pos (by omega)]
    · rw [if_neg h, if_neg (by omega)]
  iintro HM
  iapply Hk
  isplitl [HM]; · iexact HM
  iexact HV

/-- The mask of row `r` of a trip. -/
theorem rowMask_eq (w : IVec S16 32) (r : Fin 16) (x : S16.Idx) : rowMask w r x = IntOp.cmpi .sgt (w (Shape.ofLane (d := ![16]) r)) 0#32 := by
  show IntOp.cmpi .sgt (w _) 0#32 = _
  refine congrArg (fun y => IntOp.cmpi .sgt (w y) 0#32) ?_
  funext a
  rw [Fin.eq_zero a]
  rfl

/-- One trip of the blend of a block. -/
theorem run_blendBody {M Vb : Vm S128x128 .f32} {W : Vm S512 .i32} {Wn : S512.Idx → BitVec 32} (b : Fin 4) {Vr Mr : S128x128.Idx → Elt F .f32} (t : Fin loop8.trips) :
    iprop(own (F := F) d c s W fullShare Wn ∗ blends d c s M Vb (blend Wn b Vr Mr) Vr Mr (2048 * t.val))
      ⊢ wpT (F := F) d c s (blendBody M Vb W (woff b) (woff_inb b) (boff b) (boff_inb b) t) fun _ =>
        iprop(own (F := F) d c s W fullShare Wn ∗ blends d c s M Vb (blend Wn b Vr Mr) Vr Mr (2048 * (t.val + 1))) := by
  have ht : t.val < 8 := t.isLt
  unfold blendBody
  iintro ⟨HW, HB⟩
  iapply (own_load _ _) $$ HW
  iintro HW
  have h := Runs.upto (F := F) (d := d) (c := c) (s := s) (n := 16) (α := BitVec 32)
    (fun r => blends d c s M Vb (blend Wn b Vr Mr) Vr Mr (2048 * t.val + 128 * r))
    (fun r k => upto 8 (fun q k => grp M Vb (rowMask (fun x => Wn ((Rect.unit (s := S512) (woff b t) S16.size (woff_inb b t)).emb x)) r)
      (boff b q t (BitVec.ofNat 32 r.val)) (boff_inb b q t r) k) k)
    (by
      intro r
      have hr : r.val < 16 := r.isLt
      refine Runs.upto (F := F) (n := 8) (fun q => blends d c s M Vb (blend Wn b Vr Mr) Vr Mr (2048 * t.val + 128 * r.val + 16 * q)) _ ?_
      intro q
      have hq : q.val < 8 := q.isLt
      have := run_grp (F := F) (d := d) (c := c) (s := s) (α := BitVec 32) (M := M) (Vb := Vb) (Wn := Wn) (b := b) (Vr := Vr) (Mr := Mr)
        (inb := boff_inb b q t r) (r := 16 * t.val + r.val) (q := 16 * q.val) (by omega) (by omega) (boff_eq b q t r)
        (msk := rowMask (fun x => Wn ((Rect.unit (s := S512) (woff b t) S16.size (woff_inb b t)).emb x)) r)
        (fun x => by
          rw [rowMask_eq, blk_eq Wn b ⟨16 * t.val + r.val, by omega⟩]
          rw [emb16 (woff_eq b t)]
          show 16 * t.val + 128 * b.val + r.val = _
          show _ = 128 * b.val + (16 * t.val + r.val)
          omega)
      rw [show 128 * (16 * t.val + r.val) + 16 * q.val = 2048 * t.val + 128 * r.val + 16 * q.val by omega] at this
      exact this)
  iapply ((h.keep (own (F := F) d c s W fullShare Wn)).done _ ?_) $$ [HW HB]
  · iintro ⟨HB, HW⟩
    isplitl [HW]; · iexact HW
    rw [Nat.mul_succ]
    iexact HB
  isplitl [HB]; · iexact HB
  iexact HW

end Cert.Proof
-- ==== Proof.RowTile.lean ====
module
public import proofs.«01_k».proof.Defs
public import proofs.«01_k».proof.Proof.RowRun

/-!
# The row kernel on one tile

From the memrefs of a tile, whatever its own memory holds, the row kernel ends with the four blocks of the tile's part of
the result rewritten to the blend of the rows its lists name, and everything it read unchanged.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

variable {d : Dev nD} {c : Fin τ.nSC} {s : Fin τ.nSub} {α : Type}

/-- The rows of a table that a list names. -/
def rowsAt {n : Nat} {β : Type} (X : (⟨2, ![n, 128]⟩ : Shape).Idx → β) (R : S128.Idx → BitVec 32) (hin : ∀ x, (R x).toNat < n) : S128x128.Idx → β :=
  fun x => X (Shape.pair (d := ![n, 128]) ⟨(R (Shape.ofLane (d := ![128]) (x 0))).toNat, hin _⟩ (x 1))

/-- A block buffer's rows' credits are the buffer's. -/
def RowCredit (dst : Vm S128x128 .f32) : Prop :=
  ∑ j, (dst.slice (S128x128.rowRect (0 : Fin 2) j) (S128x128.stride_rowRect (0 : Fin 2) j)).view.dmaCredit = dst.view.dmaCredit

/-- The start of a gather of rows into a block buffer. -/
theorem run_start {n : Nat} {src : Hb ⟨2, ![n, 128]⟩ .f32} {dst : Vm S128x128 .f32} {hg : (⟨2, ![n, 128]⟩ : Shape).Gathers 0 S128x128}
    {hn : S128.numel = S128x128.size hg.axis'} {inb : ∀ a, (![0, 0] : Fin 2 → Nat) a + (![n, 128] : Fin 2 → Nat) a ≤ (![n, 128] : Fin 2 → Nat) a}
    {hr : (⟨2, ![n, 128]⟩ : Shape).StreamRows 0} {rows : Vm S128 .i32} {sem : DmaSem sig}
    {q : PosShare TreeShare} {X : (⟨2, ![n, 128]⟩ : Shape).Idx → Elt F .f32} {R : S128.Idx → BitVec 32}
    (hN : RowCredit dst) (hin : ∀ x, (R x).toNat < n) :
    Runs (α := α) d c s iprop(own d c s src q X ∗ held (F := F) d c s dst ∗ own (F := F) d c s rows fullShare R ∗ cell d c s sem)
      (gatherStart src dst hg hn inb hr rows sem) (flying d c s src dst rows sem q X R (rowsAt X R hin)) := by
  intro k Q
  iintro ⟨Hs, ⟨%Y, Hd⟩, Hr, Hc⟩ Hk
  iapply (own_gatherStart (F := F) (X := X) (Z := rowsAt X R hin) hin hN (fun x l y hl h0 h1 => ?_) k Q) $$ [Hs Hd Hr Hc]
  · refine congrArg X ?_
    funext a
    match a with
    | ⟨0, _⟩ =>
      refine Fin.ext (Eq.trans ?_ h0.symm)
      show (R _).toNat = (R l).toNat
      refine congrArg (fun z => (R z).toNat) ?_
      funext a
      rw [Fin.eq_zero a]
      exact Fin.ext hl.symm
    | ⟨1, _⟩ => exact Fin.ext h1.symm
  · isplitl [Hs]; · iexact Hs
    isplitl [Hd]; · iexact Hd
    isplitl [Hr]; · iexact Hr
    iexact Hc
  iexact Hk

/-- What a memref holds, forgotten. -/
theorem held_intro {sp : Space} {sh : Shape} {e : EltTy} {M : Memref sig .scVector sp sh e} {X : sh.Idx → Elt F e} :
    own d c s M fullShare X ⊢ held (F := F) d c s M := by
  iintro H
  iexists X
  iexact H

/-- The splitting loop of a block. -/
theorem run_split (i : grid1.Coords) (b : Fin 4) {R W : Vm S512 .i32} {mI vI : Vm S128 .i32} {L Wn : S512.Idx → BitVec 32} :
    Runs (α := α) d c s iprop(own (F := F) d c s R fullShare L ∗ own (F := F) d c s W fullShare Wn ∗ held (F := F) d c s mI ∗ held (F := F) d c s vI)
      (splitLoop i b R W mI vI)
      iprop(own (F := F) d c s R fullShare L ∗ own (F := F) d c s W fullShare Wn ∗ own (F := F) d c s mI fullShare (mList L b)
        ∗ own (F := F) d c s vI fullShare (vList (base1 i) Wn b)) := by
  intro k Q
  unfold splitLoop
  iintro ⟨HR, HW, ⟨%X, Hm⟩, ⟨%Y, Hv⟩⟩ Hk
  iapply (wp_loop (F := F) loop8 k1_t1_ok 0#32 _ (fun n _ => splits (F := F) d c s R W mI vI L Wn (base1 i) b X Y (16 * n)) (fun t _ => run_splitBody b t) _ _)
    $$ [HR HW Hm Hv]
  · unfold splits
    rw [Nat.mul_zero, fill_zero, fill_zero]
    isplitl [HR]; · iexact HR
    isplitl [HW]; · iexact HW
    isplitl [Hm]; · iexact Hm
    iexact Hv
  iintro %_ H
  iapply Hk
  unfold splits
  rw [fill_full (show 128 ≤ 16 * loop8.trips by decide), fill_full (show 128 ≤ 16 * loop8.trips by decide)]
  iexact H

/-- The blending loop of a block. -/
theorem run_blend (b : Fin 4) {M Vb : Vm S128x128 .f32} {W : Vm S512 .i32} {Wn : S512.Idx → BitVec 32} {Vr Mr : S128x128.Idx → Elt F .f32} :
    Runs (α := α) d c s iprop(own (F := F) d c s W fullShare Wn ∗ own d c s M fullShare Mr ∗ own d c s Vb fullShare Vr) (blendLoop b M Vb W)
      iprop(own (F := F) d c s W fullShare Wn ∗ own d c s M fullShare (blend Wn b Vr Mr) ∗ own d c s Vb fullShare Vr) := by
  intro k Q
  unfold blendLoop
  iintro H Hk
  iapply (wp_loop (F := F) loop8 k1_t1_ok 0#32 _ (fun n _ => iprop(own (F := F) d c s W fullShare Wn ∗ blends d c s M Vb (blend Wn b Vr Mr) Vr Mr (2048 * n)))
    (fun t _ => run_blendBody b t) _ _) $$ [H]
  · unfold blends
    rw [Nat.mul_zero, mix_zero]
    iexact H
  iintro %_ H
  iapply Hk
  unfold blends
  rw [show 2048 * loop8.trips = 16384 by decide, mix_full]
  iexact H

/-- What a tile's block of rows gets. -/
def rowOut {β : Type} (mem : S100000x128.Idx → β) (val : S16384x128.Idx → β) (base : BitVec 32) (L Wn : S512.Idx → BitVec 32)
    (hm : ∀ b x, (mList L b x).toNat < 100000) (hv : ∀ b x, (vList base Wn b x).toNat < 16384) (b : Fin 4) : S128x128.Idx → β :=
  blend Wn b (rowsAt val (vList base Wn b) (hv b)) (rowsAt mem (mList L b) (hm b))

/-- The rows of block `b` of a tile's part of a result. -/
abbrev outBlk (i : grid1.Coords) (O : Hb S16384x128 .f32) (b : Fin 4) : Hb S128x128 .f32 :=
  O.slice (Rect.unit (s := S16384x128) (k1_off19 i (BitVec.ofNat 32 (128 * b.val))) S128x128.size (k1_off19_inb i b)) (fun _ => rfl)

/-- A tile's words of a list. -/
abbrev tileOf (i : grid1.Coords) (A : Hb S16384 .i32) : Hb S512 .i32 :=
  A.slice (Rect.unit (s := S16384) (k1_off1 i) S512.size (k1_off1_inb i)) (fun _ => rfl)

/-- The core and the subcore of a task of the second call. -/
abbrev tc (i : grid1.Coords) : Fin τ.nSC := (i 0).castLE hcore1
@[inherit_doc tc] abbrev ts (i : grid1.Coords) : Fin τ.nSub := (i 1).castLE hsub1

/-- The row kernel's run on a tile. -/
theorem run_row (d : Dev nD) (i : grid1.Coords)
    (arg2 : Hb S100000x128 .f32) (harg2 : arg2.IsWhole) (arg3 : Hb S16384x128 .f32) (harg3 : arg3.IsWhole) (arg4 : Hb S16384 .i32)
    (harg4 : arg4.IsWhole) (arg5 : Hb S16384 .i32) (harg5 : arg5.IsWhole) (arg6 : Hb S16384x128 .f32) (harg6 : arg6.IsWhole) (arg7 : Vm S512 .i32)
    (harg7 : arg7.IsWhole) (arg8 : Vm S512 .i32) (harg8 : arg8.IsWhole) (arg9 : Vm S128 .i32) (harg9 : arg9.IsWhole) (arg10 : Vm S128 .i32)
    (harg10 : arg10.IsWhole) (arg11 : Vm S128 .i32) (harg11 : arg11.IsWhole) (arg12 : Vm S128 .i32) (harg12 : arg12.IsWhole) (arg13 : Vm S128 .i32)
    (harg13 : arg13.IsWhole) (arg14 : Vm S128 .i32) (harg14 : arg14.IsWhole) (arg15 : Vm S128 .i32) (harg15 : arg15.IsWhole) (arg16 : Vm S128 .i32)
    (harg16 : arg16.IsWhole) (arg17 : Vm S128x128 .f32) (harg17 : arg17.IsWhole) (arg18 : Vm S128x128 .f32) (harg18 : arg18.IsWhole)
    (arg19 : Vm S128x128 .f32) (harg19 : arg19.IsWhole) (arg20 : Vm S128x128 .f32) (harg20 : arg20.IsWhole) (arg21 : DmaSems sig S_)
    (arg22 : DmaSems sig S_) (arg23 : DmaSems sig S_) (arg24 : DmaSems sig S_) (v40_r0 : DmaSems sig S_) (v40_r1 : DmaSems sig S_)
    (v40_r2 : DmaSems sig S_) (v40_r3 : DmaSems sig S_) (v40_r4 : DmaSems sig S_) (v40_r5 : DmaSems sig S_)
    {O : CellTallies nD τ sig (HIx 2)} {W : Waits sig (HIx 2)} (hO : ∀ g, O g none = 0) {q2 q3 q4 q5 : PosShare TreeShare}
    {mem : S100000x128.Idx → Elt F .f32} {val : S16384x128.Idx → Elt F .f32} {L Wn : S512.Idx → BitVec 32}
    (hm : ∀ b x, (mList L b x).toNat < 100000) (hv : ∀ b x, (vList (base1 i) Wn b x).toNat < 16384)
    (n17 : RowCredit arg17) (n18 : RowCredit arg18) (n19 : RowCredit arg19) (n20 : RowCredit arg20) {Y : Fin 4 → S128x128.Idx → Elt F .f32} :
    iprop(own (F := F) d (tc i) (ts i) arg2 q2 mem ∗ own (F := F) d (tc i) (ts i) arg3 q3 val ∗ own (F := F) (sh := S512) d (tc i) (ts i) (tileOf i arg4) q4 L ∗ own (F := F) (sh := S512) d (tc i) (ts i) (tileOf i arg5) q5 Wn
        ∗ (own (F := F) (sh := S128x128) d (tc i) (ts i) (outBlk i arg6 0) fullShare (Y 0) ∗ own (F := F) (sh := S128x128) d (tc i) (ts i) (outBlk i arg6 1) fullShare (Y 1)
          ∗ own (F := F) (sh := S128x128) d (tc i) (ts i) (outBlk i arg6 2) fullShare (Y 2) ∗ own (F := F) (sh := S128x128) d (tc i) (ts i) (outBlk i arg6 3) fullShare (Y 3))
        ∗ (held (F := F) d (tc i) (ts i) arg7 ∗ held (F := F) d (tc i) (ts i) arg8 ∗ held (F := F) d (tc i) (ts i) arg9 ∗ held (F := F) d (tc i) (ts i) arg10 ∗ held (F := F) d (tc i) (ts i) arg11 ∗ held (F := F) d (tc i) (ts i) arg12
          ∗ held (F := F) d (tc i) (ts i) arg13 ∗ held (F := F) d (tc i) (ts i) arg14 ∗ held (F := F) d (tc i) (ts i) arg15 ∗ held (F := F) d (tc i) (ts i) arg16 ∗ held (F := F) d (tc i) (ts i) arg17
          ∗ held (F := F) d (tc i) (ts i) arg18 ∗ held (F := F) d (tc i) (ts i) arg19 ∗ held (F := F) d (tc i) (ts i) arg20)
        ∗ (cell (F := F) d (tc i) (ts i) arg21.sem ∗ cell (F := F) d (tc i) (ts i) arg22.sem ∗ cell (F := F) d (tc i) (ts i) arg23.sem ∗ cell (F := F) d (tc i) (ts i) arg24.sem
          ∗ cell (F := F) d (tc i) (ts i) v40_r0.sem ∗ cell (F := F) d (tc i) (ts i) v40_r1.sem ∗ cell (F := F) d (tc i) (ts i) v40_r2.sem ∗ cell (F := F) d (tc i) (ts i) v40_r3.sem
          ∗ cell (F := F) d (tc i) (ts i) v40_r4.sem ∗ cell (F := F) d (tc i) (ts i) v40_r5.sem) ∗ due (F := F) d (tc i) (ts i) O W)
      ⊢ wpT (F := F) d (tc i) (ts i) (rowProg i arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 arg18 harg18 arg19 harg19 arg20 harg20 arg21 arg22 arg23 arg24
          v40_r0 v40_r1 v40_r2 v40_r3 v40_r4 v40_r5) fun _ =>
    iprop(own (F := F) d (tc i) (ts i) arg2 q2 mem ∗ own (F := F) d (tc i) (ts i) arg3 q3 val ∗ own (F := F) (sh := S512) d (tc i) (ts i) (tileOf i arg4) q4 L ∗ own (F := F) (sh := S512) d (tc i) (ts i) (tileOf i arg5) q5 Wn
        ∗ (own (F := F) (sh := S128x128) d (tc i) (ts i) (outBlk i arg6 0) fullShare (rowOut mem val (base1 i) L Wn hm hv 0) ∗ own (F := F) (sh := S128x128) d (tc i) (ts i) (outBlk i arg6 1) fullShare (rowOut mem val (base1 i) L Wn hm hv 1)
          ∗ own (F := F) (sh := S128x128) d (tc i) (ts i) (outBlk i arg6 2) fullShare (rowOut mem val (base1 i) L Wn hm hv 2) ∗ own (F := F) (sh := S128x128) d (tc i) (ts i) (outBlk i arg6 3) fullShare (rowOut mem val (base1 i) L Wn hm hv 3))
        ∗ (held (F := F) d (tc i) (ts i) arg7 ∗ held (F := F) d (tc i) (ts i) arg8 ∗ held (F := F) d (tc i) (ts i) arg9 ∗ held (F := F) d (tc i) (ts i) arg10 ∗ held (F := F) d (tc i) (ts i) arg11 ∗ held (F := F) d (tc i) (ts i) arg12
          ∗ held (F := F) d (tc i) (ts i) arg13 ∗ held (F := F) d (tc i) (ts i) arg14 ∗ held (F := F) d (tc i) (ts i) arg15 ∗ held (F := F) d (tc i) (ts i) arg16 ∗ held (F := F) d (tc i) (ts i) arg17
          ∗ held (F := F) d (tc i) (ts i) arg18 ∗ held (F := F) d (tc i) (ts i) arg19 ∗ held (F := F) d (tc i) (ts i) arg20)
        ∗ (cell (F := F) d (tc i) (ts i) arg21.sem ∗ cell (F := F) d (tc i) (ts i) arg22.sem ∗ cell (F := F) d (tc i) (ts i) arg23.sem ∗ cell (F := F) d (tc i) (ts i) arg24.sem
          ∗ cell (F := F) d (tc i) (ts i) v40_r0.sem ∗ cell (F := F) d (tc i) (ts i) v40_r1.sem ∗ cell (F := F) d (tc i) (ts i) v40_r2.sem ∗ cell (F := F) d (tc i) (ts i) v40_r3.sem
          ∗ cell (F := F) d (tc i) (ts i) v40_r4.sem ∗ cell (F := F) d (tc i) (ts i) v40_r5.sem) ∗ due (F := F) d (tc i) (ts i) O W) := by
  have hn : 0 < S512.numel := by decide
  have hn' : 0 < S128x128.numel := by decide
  iintro ⟨H2, H3, H4, H5, ⟨G0, G1, G2, G3⟩, ⟨⟨%X7, H7⟩, ⟨%X8, H8⟩, H9, H10, H11, H12, H13, H14, H15, H16, H17, H18, H19, H20⟩,
    ⟨C1, C2, C3, C4, R0, R1, R2, R3, R4, R5⟩, HO⟩
  unfold rowProg
  iapply (show _ ⊢ _ from BI.BIBase.Entails.of_eq (wp_bind _ _ _ _ _ _).symm)
  unfold rowProg1
  iapply (own_copyWait (F := F) hO hn _ _) $$ [H4 H7 R0 HO]
  · isplitl [H4]; · iexact H4
    isplitl [H7]; · iexact H7
    isplitl [R0]; · iexact R0
    iexact HO
  iintro ⟨H4, H7, R0, HO⟩
  iapply (own_copyWait (F := F) hO hn _ _) $$ [H5 H8 R1 HO]
  · isplitl [H5]; · iexact H5
    isplitl [H8]; · iexact H8
    isplitl [R1]; · iexact R1
    iexact HO
  iintro ⟨H5, H8, R1, HO⟩
  -- the four lists
  iapply (run_split (F := F) i 0 _ _) $$ [H7 H8 H9 H13]
  · isplitl [H7]; · iexact H7
    isplitl [H8]; · iexact H8
    isplitl [H9]; · iexact H9
    iexact H13
  iintro ⟨H7, H8, H9, H13⟩
  iapply (run_split (F := F) i 1 _ _) $$ [H7 H8 H10 H14]
  · isplitl [H7]; · iexact H7
    isplitl [H8]; · iexact H8
    isplitl [H10]; · iexact H10
    iexact H14
  iintro ⟨H7, H8, H10, H14⟩
  iapply (run_split (F := F) i 2 _ _) $$ [H7 H8 H11 H15]
  · isplitl [H7]; · iexact H7
    isplitl [H8]; · iexact H8
    isplitl [H11]; · iexact H11
    iexact H15
  iintro ⟨H7, H8, H11, H15⟩
  iapply (run_split (F := F) i 3 _ _) $$ [H7 H8 H12 H16]
  · isplitl [H7]; · iexact H7
    isplitl [H8]; · iexact H8
    isplitl [H12]; · iexact H12
    iexact H16
  iintro ⟨H7, H8, H12, H16⟩
  iapply (run_start (F := F) n17 (hm 0) _ _) $$ [H2 H17 H9 C1]
  · isplitl [H2]; · iexact H2
    isplitl [H17]; · iexact H17
    isplitl [H9]; · iexact H9
    iexact C1
  iintro A1
  iapply (run_start (F := F) n19 (hv 0) _ _) $$ [H3 H19 H13 C3]
  · isplitl [H3]; · iexact H3
    isplitl [H19]; · iexact H19
    isplitl [H13]; · iexact H13
    iexact C3
  iintro A3
  iapply (own_gatherWait (F := F) hO _ _) $$ [A1 HO]
  · isplitl [A1]; · iexact A1
    iexact HO
  iintro ⟨⟨H17, H2, H9⟩, C1, HO⟩
  iapply wpT_ret
  iapply (show _ ⊢ _ from BI.BIBase.Entails.of_eq (wp_bind _ _ _ _ _ _).symm)
  unfold rowProg2
  iapply (own_gatherWait (F := F) hO _ _) $$ [A3 HO]
  · isplitl [A3]; · iexact A3
    iexact HO
  iintro ⟨⟨H19, H3, H13⟩, C3, HO⟩
  iapply (run_start (F := F) n18 (hm 1) _ _) $$ [H2 H18 H10 C2]
  · isplitl [H2]; · iexact H2
    isplitl [H18]; · iexact H18
    isplitl [H10]; · iexact H10
    iexact C2
  iintro A2
  iapply (run_start (F := F) n20 (hv 1) _ _) $$ [H3 H20 H14 C4]
  · isplitl [H3]; · iexact H3
    isplitl [H20]; · iexact H20
    isplitl [H14]; · iexact H14
    iexact C4
  iintro A4
  iapply (run_blend (F := F) 0 _ _) $$ [H8 H17 H19]
  · isplitl [H8]; · iexact H8
    isplitl [H17]; · iexact H17
    iexact H19
  iintro ⟨H8, H17, H19⟩
  iapply (own_copyWait (F := F) hO hn' _ _) $$ [H17 G0 R2 HO]
  · isplitl [H17]; · iexact H17
    isplitl [G0]; · iexact G0
    isplitl [R2]; · iexact R2
    iexact HO
  iintro ⟨H17, G0, R2, HO⟩
  iapply (own_gatherWait (F := F) hO _ _) $$ [A2 HO]
  · isplitl [A2]; · iexact A2
    iexact HO
  iintro ⟨⟨H18, H2, H10⟩, C2, HO⟩
  iapply (own_gatherWait (F := F) hO _ _) $$ [A4 HO]
  · isplitl [A4]; · iexact A4
    iexact HO
  iintro ⟨⟨H20, H3, H14⟩, C4, HO⟩
  ihave H17 := (held_intro (F := F)) $$ H17
  ihave H19 := (held_intro (F := F)) $$ H19
  iapply (run_start (F := F) n17 (hm 2) _ _) $$ [H2 H17 H11 C1]
  · isplitl [H2]; · iexact H2
    isplitl [H17]; · iexact H17
    isplitl [H11]; · iexact H11
    iexact C1
  iintro A1
  iapply (run_start (F := F) n19 (hv 2) _ _) $$ [H3 H19 H15 C3]
  · isplitl [H3]; · iexact H3
    isplitl [H19]; · iexact H19
    isplitl [H15]; · iexact H15
    iexact C3
  iintro A3
  iapply (run_blend (F := F) 1 _ _) $$ [H8 H18 H20]
  · isplitl [H8]; · iexact H8
    isplitl [H18]; · iexact H18
    iexact H20
  iintro ⟨H8, H18, H20⟩
  iapply wpT_ret
  iapply (show _ ⊢ _ from BI.BIBase.Entails.of_eq (wp_bind _ _ _ _ _ _).symm)
  unfold rowProg3
  iapply (own_copyWait (F := F) hO hn' _ _) $$ [H18 G1 R3 HO]
  · isplitl [H18]; · iexact H18
    isplitl [G1]; · iexact G1
    isplitl [R3]; · iexact R3
    iexact HO
  iintro ⟨H18, G1, R3, HO⟩
  iapply (own_gatherWait (F := F) hO _ _) $$ [A1 HO]
  · isplitl [A1]; · iexact A1
    iexact HO
  iintro ⟨⟨H17, H2, H11⟩, C1, HO⟩
  iapply (own_gatherWait (F := F) hO _ _) $$ [A3 HO]
  · isplitl [A3]; · iexact A3
    iexact HO
  iintro ⟨⟨H19, H3, H15⟩, C3, HO⟩
  ihave H18 := (held_intro (F := F)) $$ H18
  ihave H20 := (held_intro (F := F)) $$ H20
  iapply (run_start (F := F) n18 (hm 3) _ _) $$ [H2 H18 H12 C2]
  · isplitl [H2]; · iexact H2
    isplitl [H18]; · iexact H18
    isplitl [H12]; · iexact H12
    iexact C2
  iintro A2
  iapply (run_start (F := F) n20 (hv 3) _ _) $$ [H3 H20 H16 C4]
  · isplitl [H3]; · iexact H3
    isplitl [H20]; · iexact H20
    isplitl [H16]; · iexact H16
    iexact C4
  iintro A4
  iapply (run_blend (F := F) 2 _ _) $$ [H8 H17 H19]
  · isplitl [H8]; · iexact H8
    isplitl [H17]; · iexact H17
    iexact H19
  iintro ⟨H8, H17, H19⟩
  iapply (own_copyWait (F := F) hO hn' _ _) $$ [H17 G2 R4 HO]
  · isplitl [H17]; · iexact H17
    isplitl [G2]; · iexact G2
    isplitl [R4]; · iexact R4
    iexact HO
  iintro ⟨H17, G2, R4, HO⟩
  iapply (own_gatherWait (F := F) hO _ _) $$ [A2 HO]
  · isplitl [A2]; · iexact A2
    iexact HO
  iintro ⟨⟨H18, H2, H12⟩, C2, HO⟩
  iapply (own_gatherWait (F := F) hO _ _) $$ [A4 HO]
  · isplitl [A4]; · iexact A4
    iexact HO
  iintro ⟨⟨H20, H3, H16⟩, C4, HO⟩
  iapply (run_blend (F := F) 3 _ _) $$ [H8 H18 H20]
  · isplitl [H8]; · iexact H8
    isplitl [H18]; · iexact H18
    iexact H20
  iintro ⟨H8, H18, H20⟩
  iapply wpT_ret
  iapply (own_copyWait (F := F) hO hn' _ _) $$ [H18 G3 R5 HO]
  · isplitl [H18]; · iexact H18
    isplitl [G3]; · iexact G3
    isplitl [R5]; · iexact R5
    iexact HO
  iintro ⟨H18, G3, R5, HO⟩
  iapply wpT_ret
  ihave H7 := (held_intro (F := F)) $$ H7
  ihave H8 := (held_intro (F := F)) $$ H8
  ihave H9 := (held_intro (F := F)) $$ H9
  ihave H10 := (held_intro (F := F)) $$ H10
  ihave H11 := (held_intro (F := F)) $$ H11
  ihave H12 := (held_intro (F := F)) $$ H12
  ihave H13 := (held_intro (F := F)) $$ H13
  ihave H14 := (held_intro (F := F)) $$ H14
  ihave H15 := (held_intro (F := F)) $$ H15
  ihave H16 := (held_intro (F := F)) $$ H16
  ihave H17 := (held_intro (F := F)) $$ H17
  ihave H18 := (held_intro (F := F)) $$ H18
  ihave H19 := (held_intro (F := F)) $$ H19
  ihave H20 := (held_intro (F := F)) $$ H20
  isplitl [H2]; · iexact H2
  isplitl [H3]; · iexact H3
  isplitl [H4]; · iexact H4
  isplitl [H5]; · iexact H5
  isplitl [G0 G1 G2 G3]
  · isplitl [G0]; · iexact G0
    isplitl [G1]; · iexact G1
    isplitl [G2]; · iexact G2
    iexact G3
  isplitl [H7 H8 H9 H10 H11 H12 H13 H14 H15 H16 H17 H18 H19 H20]
  · isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [C1 C2 C3 C4 R0 R1 R2 R3 R4 R5]
  · isplitl [C1]; · iexact C1
    isplitl [C2]; · iexact C2
    isplitl [C3]; · iexact C3
    isplitl [C4]; · iexact C4
    isplitl [R0]; · iexact R0
    isplitl [R1]; · iexact R1
    isplitl [R2]; · iexact R2
    isplitl [R3]; · iexact R3
    isplitl [R4]; · iexact R4
    iexact R5
  iexact HO

end Cert.Proof
-- ==== Proof.Value.lean ====
module
public import proofs.«01_k».proof.Defs
public import proofs.«01_k».proof.Proof.RowTile

/-!
# What the row kernel computes

The whole result of the row kernel as a function of the tables and lists it reads, and a tile's blocks of it.
-/

@[expose] public section

noncomputable section

namespace Cert.Proof

open Cert.KernelIdeal Cert.KernelIdeal.Gen
open Idealize.ShloMosaic

/-- Element `c` of row `v` of a table (the row taken modulo the table's height, which it is below wherever this is used). -/
def rowOf {n : Nat} [NeZero n] {β : Type} (X : (⟨2, ![n, 128]⟩ : Shape).Idx → β) (v : Nat) (c : Fin 128) : β :=
  X (Shape.pair (d := ![n, 128]) ⟨v % n, Nat.mod_lt _ (Nat.pos_of_neZero n)⟩ c)

/-- The result: where a word of `w` is positive the row of `val` it names, counted from one; else the row of `mem` the word of
    `ridx` names. -/
def outVal {β : Type} (mem : S100000x128.Idx → β) (val : S16384x128.Idx → β) (ridx w : S16384.Idx → BitVec 32) : S16384x128.Idx → β :=
  fun j => Scalar.select (IntOp.cmpi .sgt (w (Shape.ofLane (d := ![16384]) (j 0))) 0#32)
    (rowOf (n := 16384) val (w (Shape.ofLane (d := ![16384]) (j 0)) - 1#32).toNat (j 1))
    (rowOf (n := 100000) mem (ridx (Shape.ofLane (d := ![16384]) (j 0))).toNat (j 1))

theorem base1_nat : ∀ i : grid1.Coords, (base1 i).toNat = 1024 * (i 1).val + 512 * (i 0).val := by decide +kernel

/-- A word compared with zero, for a word of a small natural number. -/
theorem sgt_zero (w : BitVec 32) (hw : w.toNat ≤ 16384) : IntOp.cmpi .sgt w 0#32 = 1#1 ↔ 0 < w.toNat := by
  have key : (0#32).slt w = decide (0 < w.toNat) := by
    rw [BitVec.slt_eq_decide, BitVec.toInt_eq_toNat_cond, BitVec.toInt_eq_toNat_cond]
    simp only [BitVec.toNat_ofNat, Nat.reducePow, Nat.reduceMod]
    rw [if_pos (by omega), if_pos (by omega)]
    exact decide_eq_decide.mpr (by omega)
  show BitVec.ofBool ((0#32).slt w) = 1#1 ↔ _
  rw [key]
  by_cases h : 0 < w.toNat <;> simp [h]

/-- The names of value rows are in range. -/
theorem vRow_lt {base w : BitVec 32} {n : Nat} (hw : w.toNat ≤ 16384) (hb : base.toNat + n < 16384) : (vRow base w n).toNat < 16384 := by
  unfold vRow Scalar.select
  split
  · rename_i h
    have h := (sgt_zero w hw).1 h
    rw [BitVec.toNat_sub]
    simp only [BitVec.toNat_ofNat]
    omega
  · rw [BitVec.toNat_add, BitVec.toNat_ofNat]
    omega

section Tile

variable {β : Type} {i : grid1.Coords} {e : S512.Idx → S16384.Idx} (he : ∀ x, (e x 0).val = 1024 * (i 1).val + 512 * (i 0).val + (x 0).val)
  {ridx w : S16384.Idx → BitVec 32} (hr : ∀ x, (ridx x).toNat < 100000) (hw : ∀ x, (w x).toNat ≤ 16384)

include hr in
theorem tile_hm (b : Fin 4) (x : S128.Idx) : (mList (fun x => ridx (e x)) b x).toNat < 100000 := hr _

include hw in
theorem tile_hv (b : Fin 4) (x : S128.Idx) : (vList (base1 i) (fun x => w (e x)) b x).toNat < 16384 := by
  refine vRow_lt (hw _) ?_
  rw [base1_nat]
  have h0 : (i 0).val < 2 := (i 0).isLt
  have h1 : (i 1).val < 16 := (i 1).isLt
  have hx : (x 0).val < 128 := (x 0).isLt
  have := b.isLt
  omega

include he in
/-- A block's word of a tile's list is the whole list's. -/
theorem blk_tile {γ : Type} (f : S16384.Idx → γ) (b : Fin 4) (n : Fin 128) (k : Fin 16384)
    (hk : k.val = 1024 * (i 1).val + 512 * (i 0).val + 128 * b.val + n.val) :
    blk (fun x => f (e x)) b n = f (Shape.ofLane (d := ![16384]) k) := by
  refine congrArg f ?_
  funext a
  rw [Fin.eq_zero a]
  refine Fin.ext ((he _).trans ?_)
  show _ + (128 * b.val + n.val) = k.val
  omega

include he in
/-- A tile's block of the result. -/
theorem rowOut_eq (mem : S100000x128.Idx → β) (val : S16384x128.Idx → β) (b : Fin 4) (y : S128x128.Idx) (z : S16384x128.Idx)
    (h0 : (z 0).val = 1024 * (i 1).val + 512 * (i 0).val + 128 * b.val + (y 0).val) (h1 : (z 1).val = (y 1).val) :
    rowOut mem val (base1 i) (fun x => ridx (e x)) (fun x => w (e x)) (tile_hm hr) (tile_hv hw) b y = outVal mem val ridx w z := by
  have e1 : (z 1 : Fin 128) = y 1 := Fin.ext h1
  have eW := blk_tile he w b (y 0) (z 0) h0
  have eR := blk_tile he ridx b (y 0) (z 0) h0
  show Scalar.select (IntOp.cmpi .sgt (blk (fun x => w (e x)) b (y 0)) 0#32) (rowsAt val _ (tile_hv hw b) y) (rowsAt mem _ (tile_hm hr b) y) = outVal mem val ridx w z
  unfold outVal
  rw [eW]
  unfold Scalar.select
  split
  · rename_i hc
    unfold rowsAt rowOf
    refine congrArg val (congrArg₂ (Shape.pair (d := ![16384, 128])) (Fin.ext ?_) e1.symm)
    show (vRow (base1 i) (blk (fun x => w (e x)) b (y 0)) _).toNat = _ % 16384
    have hv : (vRow (base1 i) (blk (fun x => w (e x)) b (y 0)) (128 * b.val + (y 0).val)).toNat < 16384 := tile_hv hw b (Shape.ofLane (d := ![128]) (y 0))
    refine Eq.trans ?_ (Nat.mod_eq_of_lt (a := (vRow (base1 i) (blk (fun x => w (e x)) b (y 0)) (128 * b.val + (y 0).val)).toNat) hv).symm |>.trans ?_
    · rfl
    · rw [eW]; unfold vRow Scalar.select; rw [if_pos hc]
  · unfold rowsAt rowOf
    refine congrArg mem (congrArg₂ (Shape.pair (d := ![100000, 128])) (Fin.ext ?_) e1.symm)
    show (blk (fun x => ridx (e x)) b (y 0)).toNat = _ % 100000
    rw [eR, Nat.mod_eq_of_lt (hr _)]

end Tile

end Cert.Proof
-- ==== Proof.Share.lean ====
module
public import proofs.«01_k».proof.Defs
public import proofs.«01_k».proof.Proof.RowTile

/-!
# Dealing arrays to cores and tiles, and a tile's own memory

A points-to split over the fibers of a function on its elements; read shares dealt and taken back; and a tile's own buffers
and cells taken one by one off all it owns.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers (shareTok shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

variable {d : Dev nD} {c : Fin τ.nSC} {s : Fin τ.nSub}

/-- Entailment both ways is equality. -/
theorem entails_antisymm {P Q : sProp 𝕄} (h : P ⊢ Q) (h' : Q ⊢ P) : P = Q := BI.Entails.antisymm h h'

/-- A points-to is that of the fibers of a function on its elements. -/
theorem pts_fibers {ℓ : Loc nD τ sig} {κ : Type} [Fintype κ] [DecidableEq κ] (φ : Idx ℓ → κ) (A : Finset (Idx ℓ)) (q : PosShare TreeShare) (f : Buf (Elt F) ℓ) :
    (ℓ ↦[A]{q} f : sProp 𝕄) = bigSep Finset.univ fun k => ℓ ↦[A.filter fun j => φ j = k]{q} f := by
  classical
  rw [← pointsTo_biUnion Finset.univ (fun k => A.filter fun j => φ j = k) (fun k _ k' _ h => Finset.disjoint_filter.mpr fun j _ e e' => h (e.symm.trans e'))]
  congr 1
  ext j
  simp

/-- Read shares dealt, and the right to put them back. -/
theorem pts_deal {ℓ : Loc nD τ sig} {A : Finset (Idx ℓ)} (n : ℕ) (q : PosShare TreeShare) (f : Buf (Elt F) ℓ) :
    (ℓ ↦[A]{q} f : sProp 𝕄) ⊢ iprop((bigSep Finset.univ fun i : Fin n => ℓ ↦[A]{shareTokN q i.val} f)
      ∗ ((bigSep Finset.univ fun i : Fin n => ℓ ↦[A]{shareTokN q i.val} f) -∗ (ℓ ↦[A]{q} f))) := by
  iintro H
  ihave H := (Transfers.pointsTo_toks_split q n) $$ H
  icases H with ⟨HD, HT⟩
  isplitl [HT]; · iexact HT
  iintro HT
  iapply (Transfers.pointsTo_toks_join q n)
  isplitl [HD]; · iexact HD
  iexact HT

/-- Members of a set taken one by one off a separating conjunction over it. -/
theorem bigSep_list {I : Type} [DecidableEq I] (Φ : I → sProp 𝕄) (l : List I) (hnd : l.Nodup) (A : Finset I) (h : ∀ x ∈ l, x ∈ A) :
    bigSep A Φ = l.foldr (fun x P => iprop(Φ x ∗ P)) (bigSep (A \ l.toFinset) Φ) := by
  induction l generalizing A with
  | nil => simp
  | cons x l ih =>
    have hx : x ∉ l := (List.nodup_cons.mp hnd).1
    rw [SparseCore.bigSep_erase' (h x (by simp)), List.foldr_cons,
      ih (List.nodup_cons.mp hnd).2 (A.erase x) (fun y hy => Finset.mem_erase.mpr ⟨fun e => hx (e ▸ hy), h y (by simp [hy])⟩)]
    congr 3
    ext y
    simp only [Finset.mem_sdiff, Finset.mem_erase, List.mem_toFinset, List.mem_cons]
    tauto

/-- A buffer of the tile at some contents is the hold on it. -/
theorem held_whole (b : Ref sig .scVector) :
    iprop(∃ f : Buf (Elt F) ((V d c s).loc b), (V d c s).loc b ↦{fullShare} f) = held (F := F) d c s (Memref.whole b) := by
  have hset : (Memref.whole b).view.set = Finset.univ := View.set_whole b
  refine entails_antisymm ?_ ?_
  · iintro ⟨%f, H⟩
    iexists f
    iapply (own_intro (F := F) (M := Memref.whole b) (f := f) (X := f) rfl)
    rw [hset]
    iexact H
  · unfold held own
    iintro ⟨%X, %f, %_, H⟩
    iexists f
    rw [hset]
    iexact H

/-- What a tile owns beside some of its buffers, -/
def restBufs (d : Dev nD) (c : Fin τ.nSC) (s : Fin τ.nSub) (l : List (Ref sig .scVector)) : sProp 𝕄 :=
  bigSep (ownRefs (τ := τ) (.scVector c s) \ (l.map ((Proc.scVector c s).devRef (sig := sig))).toFinset) fun b => iprop(∃ f : Buf (Elt F) ((d, b) : Loc nD τ sig), ((d, b) : Loc nD τ sig) ↦{fullShare} f)

/-- and beside some of its cells. -/
def restCells (d : Dev nD) (c : Fin τ.nSC) (s : Fin τ.nSub) (l : List (DmaSem sig)) : sProp 𝕄 :=
  bigSep (ownCells (V d c s) \ (l.map fun sem => ((V d c s, SemLoc.dma sem) : GSem nD τ sig)).toFinset) fun g => semVal g 0

/-- A tile's buffers are some of them, held, and the rest. -/
theorem ownBufs_list (l : List (Ref sig .scVector)) (hnd : l.Nodup) (ho : ∀ b ∈ l, ((Proc.scVector c s).devRef (sig := sig) b).owner = .proc (.scVector c s)) :
    (ownBufs (V d c s) : sProp 𝕄) = l.foldr (fun b P => iprop(held (F := F) d c s (Memref.whole b) ∗ P)) (restBufs (F := F) d c s l) := by
  unfold SparseCore.Cfg.ownBufs restBufs
  refine (bigSep_list _ (l.map ((Proc.scVector c s).devRef (sig := sig))) (hnd.map (Proc.devRef_injective _)) _ ?_).trans ?_
  · intro x hx
    obtain ⟨b, hb, rfl⟩ := List.mem_map.mp hx
    exact SparseCore.Cfg.mem_ownRefs_of_owner (ho b hb)
  · rw [List.foldr_map]
    refine congrArg (fun g => List.foldr g _ l) ?_
    funext b P
    exact congrArg (fun Q => iprop(Q ∗ P)) (held_whole b)

/-- A tile's cells are some of them at zero and the rest. -/
theorem ownCells_list (l : List (DmaSem sig)) (hnd : l.Nodup) (ho : ∀ sem ∈ l, (SemLoc.dma sem : SemLoc sig).isScoped .scVector = true) :
    (ownSems0 (V d c s) : sProp 𝕄) = l.foldr (fun sem P => iprop(cell (F := F) d c s sem ∗ P)) (restCells (F := F) d c s l) := by
  unfold SparseCore.Cfg.ownSems0 restCells
  refine (bigSep_list _ (l.map fun sem => ((V d c s, SemLoc.dma sem) : GSem nD τ sig))
    (hnd.map fun a b h => by simpa using h) _ ?_).trans ?_
  · intro x hx
    obtain ⟨sem, hs, rfl⟩ := List.mem_map.mp hx
    exact mem_ownCells.mpr ⟨rfl, ho sem hs⟩
  · rw [List.foldr_map]

/-- A whole array held by a tile at a share, -/
theorem own_whole (b : Ref sig .scVector) (q : PosShare TreeShare) (f : Buf (Elt F) ((V d c s).loc b)) :
    ((V d c s).loc b ↦{q} f : sProp 𝕄) = own d c s (Memref.whole b) q f := by
  have hset : (Memref.whole b).view.set = Finset.univ := View.set_whole b
  refine entails_antisymm ?_ ?_
  · iintro H
    iapply (own_intro (F := F) (M := Memref.whole b) (f := f) (X := f) rfl)
    rw [hset]
    iexact H
  · refine (own_elim (F := F) (M := Memref.whole b) (f := f) (X := f) rfl).trans ?_
    rw [hset]

/-- and a part of one. -/
theorem own_part (b : Ref sig .scVector) (q : PosShare TreeShare) (r : Rect b.ty.shape) (h : ∀ a, r.stride a = 1) (A : Finset b.ty.shape.Idx) (hA : r.set = A)
    (f : Buf (Elt F) ((V d c s).loc b)) :
    ((V d c s).loc b ↦[A]{q} f : sProp 𝕄) = own (sh := r.shape) d c s ((Memref.whole b).slice r h) q (fun x => f (r.emb x)) := by
  have hset : ((Memref.whole b).slice r h).view.set = A := (View.set_slice_whole b r).trans hA
  refine entails_antisymm ?_ ?_
  · iintro H
    iapply (own_intro (F := F) (M := (Memref.whole b).slice r h) (f := f) (X := fun x => f (r.emb x)) rfl)
    rw [hset]
    iexact H
  · refine (own_elim (F := F) (M := (Memref.whole b).slice r h) (f := f) (X := fun x => f (r.emb x)) rfl).trans ?_
    rw [hset]

end Cert.Proof
-- ==== Proof.Tiles.lean ====
module
public import proofs.«01_k».proof.Defs
public import proofs.«01_k».proof.Proof.Value
public import proofs.«01_k».proof.Proof.Share

/-!
# The two tasks of a tile

What a tile is handed for each of the two calls, as parts of the arrays in HBM, and that the call's program on the tile
brings it back with the tile's part of the result written.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0)
open Idealize.ShloMosaic.Transfers (shareTok shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

/-! ## The arrays -/

abbrev mLoc (d : Dev nD) : Loc nD τ sig := (SparseCore.T d).loc main_arg0
abbrev iLoc (d : Dev nD) : Loc nD τ sig := (SparseCore.T d).loc main_arg1
abbrev vLoc (d : Dev nD) : Loc nD τ sig := (SparseCore.T d).loc main_arg2
abbrev rLoc (d : Dev nD) : Loc nD τ sig := (SparseCore.T d).loc main_arg3
abbrev wLoc (d : Dev nD) : Loc nD τ sig := (SparseCore.T d).loc main_v0
abbrev oLoc (d : Dev nD) : Loc nD τ sig := (SparseCore.T d).loc main_v1

variable (m : (ℓ : Loc nD τ sig) → Buf (Elt F) ℓ) (ρ : Dev nD → PrngReg)

/-- The winners as the first call leaves them, -/
def wFin (d : Dev nD) : Buf (Elt F) (wLoc d) := wVal (m (iLoc d)) (m (rLoc d))
/-- and the rows as the second does. -/
def oFin (d : Dev nD) : Buf (Elt F) (oLoc d) := outVal (m (mLoc d)) (m (vLoc d)) (m (rLoc d)) (wVal (m (iLoc d)) (m (rLoc d)))

/-- What is asked of the launch memory: every index below the number of rows. -/
def PreOK : Prop := ∀ d : Dev nD, (∀ j : S16384.Idx, (m (iLoc d) j).toNat < 100000) ∧ ∀ j : S16384.Idx, (m (rLoc d) j).toNat < 100000

/-- A winner is no more than the number of writes. -/
theorem wFin_le (d : Dev nD) (x : S16384.Idx) : (wFin m d x : BitVec 32).toNat ≤ 16384 := by
  have h := winN_le (natOf (m (iLoc d))) 16384 (m (rLoc d) x).toNat
  show (BitVec.ofNat 32 _).toNat ≤ _
  rw [BitVec.toNat_ofNat, Nat.mod_eq_of_lt (by omega)]
  exact h

/-! ## The parts -/

/-- The core, the tile and the block of a row. -/
def coreOf (n : Nat) : Fin τ.nSC := ⟨n / 512 % 2, Nat.mod_lt _ (by decide)⟩
@[inherit_doc coreOf] def subOf (n : Nat) : Fin τ.nSub := ⟨n / 1024 % 16, Nat.mod_lt _ (by decide)⟩
@[inherit_doc coreOf] def blkOf (n : Nat) : Fin 4 := ⟨n / 128 % 4, Nat.mod_lt _ (by decide)⟩

/-- A core's words of the winners, -/
def wCore (c : Fin τ.nSC) : Finset S16384.Idx := Finset.univ.filter fun j => coreOf (j 0).val = c
/-- a tile's, -/
def wTile (c : Fin τ.nSC) (s : Fin τ.nSub) : Finset S16384.Idx := (wCore c).filter fun j => subOf (j 0).val = s
/-- a core's rows of the result, -/
def oCore (c : Fin τ.nSC) : Finset S16384x128.Idx := Finset.univ.filter fun j => coreOf (j 0).val = c
/-- a tile's, -/
def oTile (c : Fin τ.nSC) (s : Fin τ.nSub) : Finset S16384x128.Idx := (oCore c).filter fun j => subOf (j 0).val = s
/-- and a block's. -/
def oBlk (c : Fin τ.nSC) (s : Fin τ.nSub) (b : Fin 4) : Finset S16384x128.Idx := (oTile c s).filter fun j => blkOf (j 0).val = b

/-- The words the first call's program slices are the tile's. -/
theorem wTile_eq (i : grid0.Coords) : (Rect.unit (s := S16384) (k0_off1 i) S512.size (k0_off1_inb i)).set = wTile ((i 0).castLE hcore0) ((i 1).castLE hsub0) := by
  ext j
  have h0 : (i 0).val < 2 := (i 0).isLt
  have h1 : (i 1).val < 16 := (i 1).isLt
  have hj : (j 0).val < 16384 := (j 0).isLt
  unfold wTile wCore
  rw [Rect.mem_set_unit, Finset.mem_filter, Finset.mem_filter, Fin.ext_iff, Fin.ext_iff]
  show (∀ a, k0_off1 i a ≤ (j a).val ∧ (j a).val < k0_off1 i a + S512.size a) ↔ (_ ∧ (j 0).val / 512 % 2 = (i 0).val) ∧ (j 0).val / 1024 % 16 = (i 1).val
  rw [k0_off1_eq]
  constructor
  · intro h
    have h := h 0
    simp only [Matrix.cons_val_zero] at h
    exact ⟨⟨Finset.mem_univ _, by omega⟩, by omega⟩
  · rintro ⟨⟨_, hc⟩, hs⟩ a
    rw [Fin.eq_zero a]
    simp only [Matrix.cons_val_zero]
    omega

/-- The rows the second call's program slices are the tile's block. -/
theorem oBlk_eq (i : grid1.Coords) (b : Fin 4) :
    (Rect.unit (s := S16384x128) (k1_off19 i (BitVec.ofNat 32 (128 * b.val))) S128x128.size (k1_off19_inb i b)).set = oBlk (tc i) (ts i) b := by
  ext j
  have h0 : (i 0).val < 2 := (i 0).isLt
  have h1 : (i 1).val < 16 := (i 1).isLt
  have hj : (j 0).val < 16384 := (j 0).isLt
  have hj1 : (j 1).val < 128 := (j 1).isLt
  have hb := b.isLt
  unfold oBlk oTile oCore
  rw [Rect.mem_set_unit, Finset.mem_filter, Finset.mem_filter, Finset.mem_filter, Fin.ext_iff, Fin.ext_iff, Fin.ext_iff]
  show (∀ a, k1_off19 i (BitVec.ofNat 32 (128 * b.val)) a ≤ (j a).val ∧ (j a).val < k1_off19 i (BitVec.ofNat 32 (128 * b.val)) a + S128x128.size a)
    ↔ ((_ ∧ (j 0).val / 512 % 2 = (i 0).val) ∧ (j 0).val / 1024 % 16 = (i 1).val) ∧ (j 0).val / 128 % 4 = b.val
  rw [k1_off19_eq]
  constructor
  · intro h
    have h := h 0
    simp only [Matrix.cons_val_zero] at h
    exact ⟨⟨⟨Finset.mem_univ _, by omega⟩, by omega⟩, by omega⟩
  · rintro ⟨⟨⟨_, hc⟩, hs⟩, hk⟩ a
    match a with
    | ⟨0, _⟩ => show 1024 * (i 1).val + 512 * (i 0).val + 128 * b.val ≤ (j 0).val ∧ (j 0).val < 1024 * (i 1).val + 512 * (i 0).val + 128 * b.val + 128; omega
    | ⟨1, _⟩ => show 0 ≤ (j 1).val ∧ (j 1).val < 0 + 128; omega

/-! ## What a tile is handed -/

/-- A tile's read share of an array. -/
abbrev tq (c : Fin τ.nSC) (s : Fin τ.nSub) : PosShare TreeShare := shareTokN (shareTokN fullShare c.val) s.val

/-- For the first call: both lists to read, its words of the winners at `f`, -/
def res0 (d : Dev nD) (c : Fin τ.nSC) (s : Fin τ.nSub) (f : Buf (Elt F) (wLoc d)) : sProp 𝕄 :=
  iprop((iLoc d ↦{tq c s} m (iLoc d)) ∗ (rLoc d ↦{tq c s} m (rLoc d)) ∗ (wLoc d ↦[wTile c s]{fullShare} f))

/-- for the second: the tables, the read list and the winners to read, its rows of the result at `f`. -/
def res1 (d : Dev nD) (c : Fin τ.nSC) (s : Fin τ.nSub) (f : Buf (Elt F) (oLoc d)) : sProp 𝕄 :=
  iprop((mLoc d ↦{tq c s} m (mLoc d)) ∗ (vLoc d ↦{tq c s} m (vLoc d)) ∗ (rLoc d ↦{tq c s} m (rLoc d)) ∗ (wLoc d ↦{tq c s} wFin m d)
    ∗ (oLoc d ↦[oTile c s]{fullShare} f))

variable {d : Dev nD} {c : Fin τ.nSC} {s : Fin τ.nSub}

/-- The first call's buffers of a tile, -/
def refs0 : List (Ref sig .scVector) := [cc0_scratch0, cc0_scratch1, cc0_scratch2, cc0_scratch3]

/-- its cells, -/
def sems0 : List (DmaSem sig) := [cc0_scoped0.sem, cc0_scoped1.sem, cc0_scoped2.sem]

/-- the second call's buffers, -/
def refs1 : List (Ref sig .scVector) :=
  [cc1_scratch0, cc1_scratch1, cc1_scratch2, cc1_scratch3, cc1_scratch4, cc1_scratch5, cc1_scratch6, cc1_scratch7, cc1_scratch8, cc1_scratch9,
    cc1_scratch10, cc1_scratch11, cc1_scratch12, cc1_scratch13]

/-- and its cells. -/
def sems1 : List (DmaSem sig) :=
  [cc1_scratch14.sem, cc1_scratch15.sem, cc1_scratch16.sem, cc1_scratch17.sem, cc1_scoped0.sem, cc1_scoped1.sem, cc1_scoped2.sem, cc1_scoped3.sem,
    cc1_scoped4.sem, cc1_scoped5.sem]

/-- They are the tile's own. -/
theorem refs0_own : ∀ b ∈ refs0, ((Proc.scVector c s).devRef (sig := sig) b).owner = .proc (.scVector c s) := by
  intro b hb
  simp only [refs0, List.mem_cons, List.not_mem_nil, or_false] at hb
  rcases hb with rfl | rfl | rfl | rfl <;> rfl
@[inherit_doc refs0_own] theorem refs1_own : ∀ b ∈ refs1, ((Proc.scVector c s).devRef (sig := sig) b).owner = .proc (.scVector c s) := by
  intro b hb
  simp only [refs1, List.mem_cons, List.not_mem_nil, or_false] at hb
  rcases hb with rfl | rfl | rfl | rfl | rfl | rfl | rfl | rfl | rfl | rfl | rfl | rfl | rfl | rfl <;> rfl

/-- A tile's buffers, the first call's apart; -/
theorem bufs0 : (ownBufs (V d c s) : sProp 𝕄) = refs0.foldr (fun b P => iprop(held (F := F) d c s (Memref.whole b) ∗ P)) (restBufs (F := F) d c s refs0) :=
  ownBufs_list refs0 (by decide) refs0_own
/-- the second call's; -/
theorem bufs1 : (ownBufs (V d c s) : sProp 𝕄) = refs1.foldr (fun b P => iprop(held (F := F) d c s (Memref.whole b) ∗ P)) (restBufs (F := F) d c s refs1) :=
  ownBufs_list refs1 (by decide) refs1_own
/-- its cells, the first call's apart; -/
theorem cells0 : (ownSems0 (V d c s) : sProp 𝕄) = sems0.foldr (fun sem P => iprop(cell (F := F) d c s sem ∗ P)) (restCells (F := F) d c s sems0) :=
  ownCells_list sems0 (by decide) (by decide)
/-- the second call's. -/
theorem cells1 : (ownSems0 (V d c s) : sProp 𝕄) = sems1.foldr (fun sem P => iprop(cell (F := F) d c s sem ∗ P)) (restCells (F := F) d c s sems1) :=
  ownCells_list sems1 (by decide) (by decide)

/-! ## The tasks -/

/-- Five hundred and twelve words of an array of words taken out and put back. -/
theorem words_cut {sp : Space} {M : Memref sig .scVector sp S16384 .i32} (o : Fin S16384.rank → Nat) (h : ∀ a, o a + S512.size a ≤ S16384.size a) {q : PosShare TreeShare}
    {X : S16384.Idx → Elt F .i32} :
    own (F := F) d c s M q X ⊢ iprop(own (F := F) (sh := S512) d c s (M.slice (Rect.unit (s := S16384) o S512.size h) (fun _ => rfl)) q (fun x => X ((Rect.unit (s := S16384) o S512.size h).emb x))
      ∗ (own (F := F) (sh := S512) d c s (M.slice (Rect.unit (s := S16384) o S512.size h) (fun _ => rfl)) q (fun x => X ((Rect.unit (s := S16384) o S512.size h).emb x)) -∗ own (F := F) d c s M q X)) :=
  own_slice (F := F) (Rect.unit (s := S16384) o S512.size h) (fun _ => rfl)

/-- The winners a tile has written are the whole array's. -/
theorem words_back (d : Dev nD) (i : grid0.Coords) :
    own (F := F) (sh := S512) d ((i 0).castLE hcore0) ((i 1).castLE hsub0)
        ((Memref.whole main_v0_scv).slice (Rect.unit (s := S16384) (k0_off1 i) S512.size (k0_off1_inb i)) (fun _ => rfl)) fullShare
        (winOf (m (iLoc d)) fun x => m (rLoc d) ((Rect.unit (s := S16384) (k0_off1 i) S512.size (k0_off1_inb i)).emb x))
      ⊢ (wLoc d ↦[wTile ((i 0).castLE hcore0) ((i 1).castLE hsub0)]{fullShare} wFin m d : sProp 𝕄) :=
  Entails.of_eq (own_part (F := F) (d := d) (c := (i 0).castLE hcore0) (s := (i 1).castLE hsub0) main_v0_scv fullShare
    (Rect.unit (s := S16384) (k0_off1 i) S512.size (k0_off1_inb i)) (fun _ => rfl) _ (wTile_eq i) (wFin m d)).symm

/-- The first call's task on a tile. -/
theorem tile0 (hF : (K (F := F)).Facts) (hpre : PreOK m) (d : Dev nD) (i : grid0.Coords) {O : CellTallies nD τ sig (HIx 2)} {W : Waits sig (HIx 2)}
    (hO : ∀ g, O g none = 0) :
    iprop(levAts (K (F := F)).L (K (F := F)).lev ∗ emp ∗ res0 m d ((i 0).castLE hcore0) ((i 1).castLE hsub0) (m (wLoc d))
        ∗ scopedBufs (V d ((i 0).castLE hcore0) ((i 1).castLE hsub0)) ∗ scopedSems0 (V d ((i 0).castLE hcore0) ((i 1).castLE hsub0))
        ∗ owes (V d ((i 0).castLE hcore0) ((i 1).castLE hsub0)) O W)
      ⊢ wpT (F := F) d ((i 0).castLE hcore0) ((i 1).castLE hsub0)
        (cc0__winner_kernel i (Memref.whole main_arg1_scv) (Memref.isWhole_whole _) (Memref.whole main_arg3_scv) (Memref.isWhole_whole _)
          (Memref.whole main_v0_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scoped0 cc0_scoped1 cc0_scoped2) fun _ =>
        iprop(res0 m d ((i 0).castLE hcore0) ((i 1).castLE hsub0) (wFin m d)
          ∗ scopedBufs (V d ((i 0).castLE hcore0) ((i 1).castLE hsub0)) ∗ scopedSems0 (V d ((i 0).castLE hcore0) ((i 1).castLE hsub0))
          ∗ ∃ W', ⌜∀ p ∈ W', p ∈ W ∨ p.2 = none⌝ ∗ owes (V d ((i 0).castLE hcore0) ((i 1).castLE hsub0)) O W') := by
  rw [(K (F := F)).scopedBufs_V hF d _ _, SparseCore.Cfg.scopedSems0_V (Val := Elt F) d _ _, bufs0, cells0, winnerProg_eq]
  simp only [refs0, sems0, List.foldr_cons, List.foldr_nil]
  unfold res0
  iintro ⟨#Hlv, -, ⟨Hi, Hr, Hw⟩, ⟨B0, B1, B2, B3, HB⟩, ⟨C0, C1, C2, HC⟩, HO⟩
  ihave Hi := (Entails.of_eq (own_whole (F := F) (d := d) (c := (i 0).castLE hcore0) (s := (i 1).castLE hsub0) main_arg1_scv _ (m (iLoc d)))) $$ Hi
  ihave Hr := (Entails.of_eq (own_whole (F := F) (d := d) (c := (i 0).castLE hcore0) (s := (i 1).castLE hsub0) main_arg3_scv _ (m (rLoc d)))) $$ Hr
  ihave Hr := (words_cut (F := F) (k0_off1 i) (k0_off1_inb i)) $$ Hr
  icases Hr with ⟨Hr, Hr'⟩
  ihave Hw := (Entails.of_eq (own_part (F := F) (d := d) (c := (i 0).castLE hcore0) (s := (i 1).castLE hsub0) main_v0_scv fullShare
    (Rect.unit (s := S16384) (k0_off1 i) S512.size (k0_off1_inb i)) (fun _ => rfl) _ (wTile_eq i) (m (wLoc d)))) $$ Hw
  iapply (wp_wand frame _ _) $$ [Hi Hr Hw B0 B1 B2 B3 C0 C1 C2 HO]
  · iapply (run_winner (F := F) d i (Memref.whole main_arg1_scv) (Memref.isWhole_whole _) (Memref.whole main_arg3_scv) (Memref.isWhole_whole _)
          (Memref.whole main_v0_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scoped0 cc0_scoped1 cc0_scoped2 hO
          (hpre d).1 (fun x => (hpre d).2 _))
    isplitl [Hi]; · iexact Hi
    isplitl [Hr]; · iexact Hr
    isplitl [Hw]; · iexact Hw
    isplitl [B0]; · iexact B0
    isplitl [B1]; · iexact B1
    isplitl [B2]; · iexact B2
    isplitl [B3]; · iexact B3
    isplitl [C0]; · iexact C0
    isplitl [C1]; · iexact C1
    isplitl [C2]; · iexact C2
    unfold due
    isplitr; · iexact Hlv
    iexists W
    isplitr; · ipureintro; exact fun p hp => .inl hp
    iexact HO
  iintro %_ ⟨Hi, Hr, Hw, B0, B1, B2, B3, C0, C1, C2, HO⟩
  ihave Hr := Hr' $$ Hr
  ihave Hi := (Entails.of_eq (own_whole (F := F) (d := d) (c := (i 0).castLE hcore0) (s := (i 1).castLE hsub0) main_arg1_scv _ (m (iLoc d))).symm) $$ Hi
  ihave Hr := (Entails.of_eq (own_whole (F := F) (d := d) (c := (i 0).castLE hcore0) (s := (i 1).castLE hsub0) main_arg3_scv _ (m (rLoc d))).symm) $$ Hr
  ihave Hw := (words_back m d i) $$ Hw
  unfold due
  icases HO with ⟨-, HO⟩
  isplitl [Hi Hr Hw]
  · isplitl [Hi]; · iexact Hi
    isplitl [Hr]; · iexact Hr
    iexact Hw
  isplitl [B0 B1 B2 B3 HB]
  · isplitl [B0]; · iexact B0
    isplitl [B1]; · iexact B1
    isplitl [B2]; · iexact B2
    isplitl [B3]; · iexact B3
    iexact HB
  isplitl [C0 C1 C2 HC]
  · isplitl [C0]; · iexact C0
    isplitl [C1]; · iexact C1
    isplitl [C2]; · iexact C2
    iexact HC
  iexact HO

/-- A tile's words of an array of words, at the second call's coordinates, are at its offset. -/
theorem emb_words (i : grid1.Coords) (x : S512.Idx) :
    (((Rect.unit (s := S16384) (k1_off1 i) S512.size (k1_off1_inb i)).emb x) 0).val = 1024 * (i 1).val + 512 * (i 0).val + (x 0).val := by
  show k1_off1 i 0 + 1 * (x 0).val = _
  rw [k1_off1_eq, Nat.one_mul]
  rfl

/-- A tile's rows of the result are its four blocks. -/
theorem out_blocks (d : Dev nD) (i : grid1.Coords) (f : Buf (Elt F) (oLoc d)) :
    (oLoc d ↦[oTile (tc i) (ts i)]{fullShare} f : sProp 𝕄)
      = iprop(own (F := F) (sh := S128x128) d (tc i) (ts i) (outBlk i (Memref.whole main_v1_scv) 0) fullShare
          (fun x => f ((Rect.unit (s := S16384x128) (k1_off19 i (BitVec.ofNat 32 (128 * (0 : Fin 4).val))) S128x128.size (k1_off19_inb i 0)).emb x))
        ∗ own (F := F) (sh := S128x128) d (tc i) (ts i) (outBlk i (Memref.whole main_v1_scv) 1) fullShare
          (fun x => f ((Rect.unit (s := S16384x128) (k1_off19 i (BitVec.ofNat 32 (128 * (1 : Fin 4).val))) S128x128.size (k1_off19_inb i 1)).emb x))
        ∗ own (F := F) (sh := S128x128) d (tc i) (ts i) (outBlk i (Memref.whole main_v1_scv) 2) fullShare
          (fun x => f ((Rect.unit (s := S16384x128) (k1_off19 i (BitVec.ofNat 32 (128 * (2 : Fin 4).val))) S128x128.size (k1_off19_inb i 2)).emb x))
        ∗ own (F := F) (sh := S128x128) d (tc i) (ts i) (outBlk i (Memref.whole main_v1_scv) 3) fullShare
          (fun x => f ((Rect.unit (s := S16384x128) (k1_off19 i (BitVec.ofNat 32 (128 * (3 : Fin 4).val))) S128x128.size (k1_off19_inb i 3)).emb x))) := by
  rw [pts_fibers (ℓ := oLoc d) (fun j : S16384x128.Idx => blkOf (j 0).val), show (Finset.univ : Finset (Fin 4)) = {0, 1, 2, 3} by decide, SparseCore.bigSep_insert' (by decide),
    SparseCore.bigSep_insert' (by decide), SparseCore.bigSep_insert' (by decide), bigSep_singleton]
  have hb (b : Fin 4) := own_part (F := F) (d := d) (c := tc i) (s := ts i) main_v1_scv fullShare
    (Rect.unit (s := S16384x128) (k1_off19 i (BitVec.ofNat 32 (128 * b.val))) S128x128.size (k1_off19_inb i b)) (fun _ => rfl) _ (oBlk_eq i b) f
  exact congrArg₂ _ (hb 0) (congrArg₂ _ (hb 1) (congrArg₂ _ (hb 2) (hb 3)))

/-- What a block of a tile comes to is the result's. -/
theorem block_out (hpre : PreOK m) (d : Dev nD) (i : grid1.Coords) (b : Fin 4) (y : S128x128.Idx) :
    rowOut (m (mLoc d)) (m (vLoc d)) (base1 i) (fun x => m (rLoc d) ((Rect.unit (s := S16384) (k1_off1 i) S512.size (k1_off1_inb i)).emb x))
      (fun x => wFin m d ((Rect.unit (s := S16384) (k1_off1 i) S512.size (k1_off1_inb i)).emb x)) (tile_hm (hpre d).2) (tile_hv (i := i) (wFin_le m d)) b y
      = oFin m d ((Rect.unit (s := S16384x128) (k1_off19 i (BitVec.ofNat 32 (128 * b.val))) S128x128.size (k1_off19_inb i b)).emb y) := by
  refine rowOut_eq (emb_words i) (hpre d).2 (wFin_le m d) _ _ b y _ ?_ ?_
  · show k1_off19 i (BitVec.ofNat 32 (128 * b.val)) 0 + 1 * (y 0).val = _
    rw [k1_off19_eq, Nat.one_mul]
    rfl
  · show k1_off19 i (BitVec.ofNat 32 (128 * b.val)) 1 + 1 * (y 1).val = _
    rw [k1_off19_eq, Nat.one_mul]
    exact Nat.zero_add _

/-- The blocks a tile has written are its rows of the result. -/
theorem out_back (hpre : PreOK m) (d : Dev nD) (i : grid1.Coords) {A : Fin 4 → S128x128.Idx → Elt F .f32}
    (hA : A = rowOut (m (mLoc d)) (m (vLoc d)) (base1 i) (fun x => m (rLoc d) ((Rect.unit (s := S16384) (k1_off1 i) S512.size (k1_off1_inb i)).emb x)) (fun x => wFin m d ((Rect.unit (s := S16384) (k1_off1 i) S512.size (k1_off1_inb i)).emb x)) (tile_hm (hpre d).2) (tile_hv (i := i) (wFin_le m d))) :
    iprop(own (F := F) (sh := S128x128) d (tc i) (ts i) (outBlk i (Memref.whole main_v1_scv) 0) fullShare (A 0)
        ∗ own (F := F) (sh := S128x128) d (tc i) (ts i) (outBlk i (Memref.whole main_v1_scv) 1) fullShare (A 1)
        ∗ own (F := F) (sh := S128x128) d (tc i) (ts i) (outBlk i (Memref.whole main_v1_scv) 2) fullShare (A 2)
        ∗ own (F := F) (sh := S128x128) d (tc i) (ts i) (outBlk i (Memref.whole main_v1_scv) 3) fullShare (A 3))
      ⊢ (oLoc d ↦[oTile (tc i) (ts i)]{fullShare} oFin m d : sProp 𝕄) := by
  have hb (b : Fin 4) := congrArg (own (F := F) (sh := S128x128) d (tc i) (ts i) (outBlk i (Memref.whole main_v1_scv) b) fullShare) ((congrFun hA b).trans (funext (block_out m hpre d i b)))
  refine Entails.of_eq ?_
  rw [out_blocks]
  exact congrArg₂ _ (hb 0) (congrArg₂ _ (hb 1) (congrArg₂ _ (hb 2) (hb 3)))

/-- A row buffer's copies, row by row, bring the credit of one copy of all of it. -/
theorem credit0 : RowCredit (Memref.whole cc1_scratch10) := by unfold RowCredit; decide
@[inherit_doc credit0] theorem credit1 : RowCredit (Memref.whole cc1_scratch11) := by unfold RowCredit; decide
@[inherit_doc credit0] theorem credit2 : RowCredit (Memref.whole cc1_scratch12) := by unfold RowCredit; decide
@[inherit_doc credit0] theorem credit3 : RowCredit (Memref.whole cc1_scratch13) := by unfold RowCredit; decide

/-- The second call's task on a tile. -/
theorem tile1 (hF : (K (F := F)).Facts) (hpre : PreOK m) (d : Dev nD) (i : grid1.Coords) {O : CellTallies nD τ sig (HIx 2)} {W : Waits sig (HIx 2)}
    (hO : ∀ g, O g none = 0) :
    iprop(levAts (K (F := F)).L (K (F := F)).lev ∗ emp ∗ res1 m d (tc i) (ts i) (m (oLoc d))
        ∗ scopedBufs (V d (tc i) (ts i)) ∗ scopedSems0 (V d (tc i) (ts i)) ∗ owes (V d (tc i) (ts i)) O W)
      ⊢ wpT (F := F) d (tc i) (ts i)
        (cc1__row_kernel i
          (Memref.whole main_arg0_scv) (Memref.isWhole_whole _) (Memref.whole main_arg2_scv) (Memref.isWhole_whole _) (Memref.whole main_arg3_scv) (Memref.isWhole_whole _)
          (Memref.whole main_v0_scv) (Memref.isWhole_whole _) (Memref.whole main_v1_scv) (Memref.isWhole_whole _) (Memref.whole cc1_scratch0) (Memref.isWhole_whole _)
          (Memref.whole cc1_scratch1) (Memref.isWhole_whole _) (Memref.whole cc1_scratch2) (Memref.isWhole_whole _) (Memref.whole cc1_scratch3) (Memref.isWhole_whole _)
          (Memref.whole cc1_scratch4) (Memref.isWhole_whole _) (Memref.whole cc1_scratch5) (Memref.isWhole_whole _) (Memref.whole cc1_scratch6) (Memref.isWhole_whole _)
          (Memref.whole cc1_scratch7) (Memref.isWhole_whole _) (Memref.whole cc1_scratch8) (Memref.isWhole_whole _) (Memref.whole cc1_scratch9) (Memref.isWhole_whole _)
          (Memref.whole cc1_scratch10) (Memref.isWhole_whole _) (Memref.whole cc1_scratch11) (Memref.isWhole_whole _) (Memref.whole cc1_scratch12) (Memref.isWhole_whole _)
          (Memref.whole cc1_scratch13) (Memref.isWhole_whole _)
          cc1_scratch14 cc1_scratch15 cc1_scratch16 cc1_scratch17 cc1_scoped0 cc1_scoped1 cc1_scoped2 cc1_scoped3 cc1_scoped4 cc1_scoped5) fun _ =>
        iprop(res1 m d (tc i) (ts i) (oFin m d) ∗ scopedBufs (V d (tc i) (ts i)) ∗ scopedSems0 (V d (tc i) (ts i))
          ∗ ∃ W', ⌜∀ p ∈ W', p ∈ W ∨ p.2 = none⌝ ∗ owes (V d (tc i) (ts i)) O W') := by
  rw [(K (F := F)).scopedBufs_V hF d _ _, SparseCore.Cfg.scopedSems0_V (Val := Elt F) d _ _, bufs1, cells1, rowProg_eq]
  simp only [refs1, sems1, List.foldr_cons, List.foldr_nil]
  unfold res1
  rw [out_blocks]
  iintro ⟨#Hlv, -, ⟨Hm, Hv, Hr, Hw, Ho⟩, ⟨B0, B1, B2, B3, B4, B5, B6, B7, B8, B9, B10, B11, B12, B13, HB⟩, ⟨C0, C1, C2, C3, C4, C5, C6, C7, C8, C9, HC⟩, HO⟩
  ihave Hm := (Entails.of_eq (own_whole (F := F) (d := d) (c := tc i) (s := ts i) main_arg0_scv _ (m (mLoc d)))) $$ Hm
  ihave Hv := (Entails.of_eq (own_whole (F := F) (d := d) (c := tc i) (s := ts i) main_arg2_scv _ (m (vLoc d)))) $$ Hv
  ihave Hr := (Entails.of_eq (own_whole (F := F) (d := d) (c := tc i) (s := ts i) main_arg3_scv _ (m (rLoc d)))) $$ Hr
  ihave Hw := (Entails.of_eq (own_whole (F := F) (d := d) (c := tc i) (s := ts i) main_v0_scv _ (wFin m d))) $$ Hw
  ihave Hr := (words_cut (F := F) (k1_off1 i) (k1_off1_inb i)) $$ Hr
  icases Hr with ⟨Hr, Hr'⟩
  ihave Hw := (words_cut (F := F) (k1_off1 i) (k1_off1_inb i)) $$ Hw
  icases Hw with ⟨Hw, Hw'⟩
  iapply (wp_wand frame _ _) $$ [Hm Hv Hr Hw Ho B0 B1 B2 B3 B4 B5 B6 B7 B8 B9 B10 B11 B12 B13 C0 C1 C2 C3 C4 C5 C6 C7 C8 C9 HO]
  · iapply (run_row (F := F) d i
          (Memref.whole main_arg0_scv) (Memref.isWhole_whole _) (Memref.whole main_arg2_scv) (Memref.isWhole_whole _) (Memref.whole main_arg3_scv) (Memref.isWhole_whole _)
          (Memref.whole main_v0_scv) (Memref.isWhole_whole _) (Memref.whole main_v1_scv) (Memref.isWhole_whole _) (Memref.whole cc1_scratch0) (Memref.isWhole_whole _)
          (Memref.whole cc1_scratch1) (Memref.isWhole_whole _) (Memref.whole cc1_scratch2) (Memref.isWhole_whole _) (Memref.whole cc1_scratch3) (Memref.isWhole_whole _)
          (Memref.whole cc1_scratch4) (Memref.isWhole_whole _) (Memref.whole cc1_scratch5) (Memref.isWhole_whole _) (Memref.whole cc1_scratch6) (Memref.isWhole_whole _)
          (Memref.whole cc1_scratch7) (Memref.isWhole_whole _) (Memref.whole cc1_scratch8) (Memref.isWhole_whole _) (Memref.whole cc1_scratch9) (Memref.isWhole_whole _)
          (Memref.whole cc1_scratch10) (Memref.isWhole_whole _) (Memref.whole cc1_scratch11) (Memref.isWhole_whole _) (Memref.whole cc1_scratch12) (Memref.isWhole_whole _)
          (Memref.whole cc1_scratch13) (Memref.isWhole_whole _)
          cc1_scratch14 cc1_scratch15 cc1_scratch16 cc1_scratch17 cc1_scoped0 cc1_scoped1 cc1_scoped2 cc1_scoped3 cc1_scoped4 cc1_scoped5 hO
          (tile_hm (hpre d).2) (tile_hv (i := i) (wFin_le m d)) credit0 credit1 credit2 credit3
          (Y := fun b x => m (oLoc d) ((Rect.unit (s := S16384x128) (k1_off19 i (BitVec.ofNat 32 (128 * b.val))) S128x128.size (k1_off19_inb i b)).emb x)))
    isplitl [Hm]; · iexact Hm
    isplitl [Hv]; · iexact Hv
    isplitl [Hr]; · iexact Hr
    isplitl [Hw]; · iexact Hw
    isplitl [Ho]; · iexact Ho
    isplitl [B0 B1 B2 B3 B4 B5 B6 B7 B8 B9 B10 B11 B12 B13]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      iexact B13
    isplitl [C0 C1 C2 C3 C4 C5 C6 C7 C8 C9]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      iexact C9
    unfold due
    isplitr; · iexact Hlv
    iexists W
    isplitr; · ipureintro; exact fun p hp => .inl hp
    iexact HO
  iintro %_ ⟨Hm, Hv, Hr, Hw, Ho, ⟨B0, B1, B2, B3, B4, B5, B6, B7, B8, B9, B10, B11, B12, B13⟩, ⟨C0, C1, C2, C3, C4, C5, C6, C7, C8, C9⟩, HO⟩
  ihave Hr := Hr' $$ Hr
  ihave Hw := Hw' $$ Hw
  ihave Hm := (Entails.of_eq (own_whole (F := F) (d := d) (c := tc i) (s := ts i) main_arg0_scv _ (m (mLoc d))).symm) $$ Hm
  ihave Hv := (Entails.of_eq (own_whole (F := F) (d := d) (c := tc i) (s := ts i) main_arg2_scv _ (m (vLoc d))).symm) $$ Hv
  ihave Hr := (Entails.of_eq (own_whole (F := F) (d := d) (c := tc i) (s := ts i) main_arg3_scv _ (m (rLoc d))).symm) $$ Hr
  ihave Hw := (Entails.of_eq (own_whole (F := F) (d := d) (c := tc i) (s := ts i) main_v0_scv _ (wFin m d)).symm) $$ Hw
  ihave Ho := (out_back m hpre d i rfl) $$ Ho
  unfold due
  icases HO with ⟨-, HO⟩
  isplitl [Hm Hv Hr Hw Ho]
  · isplitl [Hm]; · iexact Hm
    isplitl [Hv]; · iexact Hv
    isplitl [Hr]; · iexact Hr
    isplitl [Hw]; · iexact Hw
    iexact Ho
  isplitl [B0 B1 B2 B3 B4 B5 B6 B7 B8 B9 B10 B11 B12 B13 HB]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact HB
  isplitl [C0 C1 C2 C3 C4 C5 C6 C7 C8 C9 HC]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    iexact HC
  iexact HO

end Cert.Proof
-- ==== Proof.Launch.lean ====
module
public import proofs.«01_k».proof.Defs
public import proofs.«01_k».proof.Proof.Tiles
public import Idealize.ShloMosaic.Lib.SparseCore.Quiescent

/-!
# The launch

What the two calls take from the TensorCore and bring back, how it is dealt to the cores and their tiles, and the run of
the whole program: every execution ends with the arguments kept, the result at `oFin`, and every semaphore at zero.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0)
open Idealize.ShloMosaic.Transfers (shareTok shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

/-! ## Dealing to several hands -/

/-- `P` deals to `n` hands as `Φ`, and what they bring back, `Ψ`, is `P'`. -/
def Deals (n : ℕ) (P P' : sProp 𝕄) (Φ Ψ : Fin n → sProp 𝕄) : Prop :=
  P ⊢ iprop((bigSep Finset.univ Φ) ∗ ((bigSep Finset.univ Ψ) -∗ P'))

/-- The deal, as an entailment. -/
theorem Deals.deal {n : ℕ} {P P' : sProp 𝕄} {Φ Ψ : Fin n → sProp 𝕄} (h : Deals n P P' Φ Ψ) : P ⊢ iprop((bigSep Finset.univ Φ) ∗ ((bigSep Finset.univ Ψ) -∗ P')) := h

/-- Two things deal side by side. -/
theorem Deals.sep {n : ℕ} {P P' Q Q' : sProp 𝕄} {Φ Ψ Φ' Ψ' : Fin n → sProp 𝕄} (h : Deals n P P' Φ Ψ) (h' : Deals n Q Q' Φ' Ψ') :
    Deals n iprop(P ∗ Q) iprop(P' ∗ Q') (fun i => iprop(Φ i ∗ Φ' i)) (fun i => iprop(Ψ i ∗ Ψ' i)) := by
  unfold Deals at *
  rw [bigSep_sep', bigSep_sep']
  iintro ⟨HP, HQ⟩
  ihave HP := h $$ HP
  ihave HQ := h' $$ HQ
  icases HP with ⟨HP, HP'⟩
  icases HQ with ⟨HQ, HQ'⟩
  isplitl [HP HQ]
  · isplitl [HP]; · iexact HP
    iexact HQ
  iintro ⟨HP, HQ⟩
  isplitl [HP HP']
  · iapply HP'; iexact HP
  iapply HQ'; iexact HQ

/-- An array that is only read deals by shares. -/
theorem deals_read {ℓ : Loc nD τ sig} (n : ℕ) (q : PosShare TreeShare) (f : Buf (Elt F) ℓ) :
    Deals n (ℓ ↦{q} f : sProp 𝕄) (ℓ ↦{q} f) (fun i => ℓ ↦{shareTokN q i.val} f) (fun i => ℓ ↦{shareTokN q i.val} f) := pts_deal n q f

/-- An array that is written deals by parts. -/
theorem deals_part {ℓ : Loc nD τ sig} {n : ℕ} (φ : Idx ℓ → Fin n) (A : Finset (Idx ℓ)) (f g : Buf (Elt F) ℓ) :
    Deals n (ℓ ↦[A]{fullShare} f : sProp 𝕄) (ℓ ↦[A]{fullShare} g) (fun i => ℓ ↦[A.filter fun j => φ j = i]{fullShare} f) (fun i => ℓ ↦[A.filter fun j => φ j = i]{fullShare} g) := by
  unfold Deals
  rw [pts_fibers φ A fullShare f, pts_fibers φ A fullShare g]
  iintro H
  isplitl [H]; · iexact H
  iintro H; iexact H

/-! ## What the calls take -/

variable (m : (ℓ : Loc nD τ sig) → Buf (Elt F) ℓ) (ρ : Dev nD → PrngReg)

/-- A core's read share of an array. -/
abbrev cq (c : Fin τ.nSC) : PosShare TreeShare := shareTokN fullShare c.val

/-- What the first call takes, on all cores, -/
def all0 (d : Dev nD) (f : Buf (Elt F) (wLoc d)) : sProp 𝕄 :=
  iprop((iLoc d ↦{fullShare} m (iLoc d)) ∗ (rLoc d ↦{fullShare} m (rLoc d)) ∗ (wLoc d ↦{fullShare} f))
/-- and on one. -/
def core0 (d : Dev nD) (c : Fin τ.nSC) (f : Buf (Elt F) (wLoc d)) : sProp 𝕄 :=
  iprop((iLoc d ↦{cq c} m (iLoc d)) ∗ (rLoc d ↦{cq c} m (rLoc d)) ∗ (wLoc d ↦[wCore c]{fullShare} f))
/-- What the second call takes, on all cores, -/
def all1 (d : Dev nD) (f : Buf (Elt F) (oLoc d)) : sProp 𝕄 :=
  iprop((mLoc d ↦{fullShare} m (mLoc d)) ∗ (vLoc d ↦{fullShare} m (vLoc d)) ∗ (rLoc d ↦{fullShare} m (rLoc d)) ∗ (wLoc d ↦{fullShare} wFin m d)
    ∗ (oLoc d ↦{fullShare} f))
/-- and on one. -/
def core1 (d : Dev nD) (c : Fin τ.nSC) (f : Buf (Elt F) (oLoc d)) : sProp 𝕄 :=
  iprop((mLoc d ↦{cq c} m (mLoc d)) ∗ (vLoc d ↦{cq c} m (vLoc d)) ∗ (rLoc d ↦{cq c} m (rLoc d)) ∗ (wLoc d ↦{cq c} wFin m d)
    ∗ (oLoc d ↦[oCore c]{fullShare} f))

/-- The first call deals to the cores, -/
theorem deals_all0 (d : Dev nD) (f g : Buf (Elt F) (wLoc d)) : Deals τ.nSC (all0 m d f) (all0 m d g) (fun c => core0 m d c f) (fun c => core0 m d c g) :=
  (deals_read (F := F) _ _ _).sep ((deals_read (F := F) _ _ _).sep (deals_part (ℓ := wLoc d) (fun j : S16384.Idx => coreOf (j 0).val) Finset.univ f g))
/-- and a core to its tiles; -/
theorem deals_core0 (d : Dev nD) (c : Fin τ.nSC) (f g : Buf (Elt F) (wLoc d)) :
    Deals τ.nSub (core0 m d c f) (core0 m d c g) (fun s => res0 m d c s f) (fun s => res0 m d c s g) :=
  (deals_read (F := F) _ _ _).sep ((deals_read (F := F) _ _ _).sep (deals_part (ℓ := wLoc d) (fun j : S16384.Idx => subOf (j 0).val) (wCore c) f g))
/-- the second call likewise, to the cores -/
theorem deals_all1 (d : Dev nD) (f g : Buf (Elt F) (oLoc d)) : Deals τ.nSC (all1 m d f) (all1 m d g) (fun c => core1 m d c f) (fun c => core1 m d c g) :=
  (deals_read (F := F) _ _ _).sep ((deals_read (F := F) _ _ _).sep ((deals_read (F := F) _ _ _).sep ((deals_read (F := F) _ _ _).sep
    (deals_part (ℓ := oLoc d) (fun j : S16384x128.Idx => coreOf (j 0).val) Finset.univ f g))))
/-- and to a core's tiles. -/
theorem deals_core1 (d : Dev nD) (c : Fin τ.nSC) (f g : Buf (Elt F) (oLoc d)) :
    Deals τ.nSub (core1 m d c f) (core1 m d c g) (fun s => res1 m d c s f) (fun s => res1 m d c s g) :=
  (deals_read (F := F) _ _ _).sep ((deals_read (F := F) _ _ _).sep ((deals_read (F := F) _ _ _).sep ((deals_read (F := F) _ _ _).sep
    (deals_part (ℓ := oLoc d) (fun j : S16384x128.Idx => subOf (j 0).val) (oCore c) f g))))

/-- These can be kept in the machine's invariants. -/
instance core0_storable (d : Dev nD) (c : Fin τ.nSC) (f : Buf (Elt F) (wLoc d)) : BI.Storable (upEmb : UEmb _ 𝕄) (core0 m d c f) := by
  unfold core0; infer_instance
@[inherit_doc core0_storable] instance res0_storable (d : Dev nD) (c : Fin τ.nSC) (s : Fin τ.nSub) (f : Buf (Elt F) (wLoc d)) :
    BI.Storable (upEmb : UEmb _ 𝕄) (res0 m d c s f) := by
  unfold res0; infer_instance
@[inherit_doc core0_storable] instance core1_storable (d : Dev nD) (c : Fin τ.nSC) (f : Buf (Elt F) (oLoc d)) : BI.Storable (upEmb : UEmb _ 𝕄) (core1 m d c f) := by
  unfold core1; infer_instance
@[inherit_doc core0_storable] instance res1_storable (d : Dev nD) (c : Fin τ.nSC) (s : Fin τ.nSub) (f : Buf (Elt F) (oLoc d)) :
    BI.Storable (upEmb : UEmb _ 𝕄) (res1 m d c s f) := by
  unfold res1; infer_instance

/-- What each call takes and brings back, for a core and for a tile. -/
def P : (K (F := F)).Pay (nD := nD) (Val := Elt F) (Name := ℕ) (U := UU) where
  st := fun q d c => match q with | 0 => core0 m d ((K (F := F)).core 0 c) (m (wLoc d)) | 1 => core1 m d ((K (F := F)).core 1 c) (m (oLoc d))
  dn := fun q d c => match q with | 0 => core0 m d ((K (F := F)).core 0 c) (wFin m d) | 1 => core1 m d ((K (F := F)).core 1 c) (oFin m d)
  go := fun q d c i => match q with
    | 0 => res0 m d ((K (F := F)).core 0 c) ((K (F := F)).sub 0 i) (m (wLoc d))
    | 1 => res1 m d ((K (F := F)).core 1 c) ((K (F := F)).sub 1 i) (m (oLoc d))
  td := fun q d c i => match q with
    | 0 => res0 m d ((K (F := F)).core 0 c) ((K (F := F)).sub 0 i) (wFin m d)
    | 1 => res1 m d ((K (F := F)).core 1 c) ((K (F := F)).sub 1 i) (oFin m d)
  x := fun _ _ => iprop(emp)

instance P_storable : (P (F := F) m).IsStorable where
  st q d c := match q with | 0 => core0_storable m d _ _ | 1 => core1_storable m d _ _
  dn q d c := match q with | 0 => core0_storable m d _ _ | 1 => core1_storable m d _ _
  go q d c i := match q with | 0 => res0_storable m d _ _ _ | 1 => res1_storable m d _ _ _
  td q d c i := match q with | 0 => res0_storable m d _ _ _ | 1 => res1_storable m d _ _ _

/-! ## The tasks, as the launch asks for them -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The coordinates of the first call's task on a tile, -/
def at0 (c : Fin (grid0.bound 0)) (s : Fin (grid0.bound 1)) : grid0.Coords :=
  fun | 0 => c | 1 => s | ⟨_ + 2, h⟩ => absurd h (Nat.not_lt.2 (Nat.le_add_left _ _))
/-- and the second's. -/
def at1 (c : Fin (grid1.bound 0)) (s : Fin (grid1.bound 1)) : grid1.Coords :=
  fun | 0 => c | 1 => s | ⟨_ + 2, h⟩ => absurd h (Nat.not_lt.2 (Nat.le_add_left _ _))

theorem defs₀_zero (c : Fin τ.nSC) (s : Fin τ.nSub) :
    defs₀ (F := F) (.scVector c s) 0 ()
      = SparseCore.onTile hcore0 hsub0 (fun c s => cc0__winner_kernel (at0 c s)
          (Memref.whole main_arg1_scv) (Memref.isWhole_whole _) (Memref.whole main_arg3_scv) (Memref.isWhole_whole _)
          (Memref.whole main_v0_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scoped0 cc0_scoped1 cc0_scoped2) ⟨⟩ c s := rfl

theorem defs₀_one (c : Fin τ.nSC) (s : Fin τ.nSub) :
    defs₀ (F := F) (.scVector c s) 1 ()
      = SparseCore.onTile hcore1 hsub1 (fun c s => cc1__row_kernel (at1 c s)
          (Memref.whole main_arg0_scv) (Memref.isWhole_whole _) (Memref.whole main_arg2_scv) (Memref.isWhole_whole _) (Memref.whole main_arg3_scv) (Memref.isWhole_whole _)
          (Memref.whole main_v0_scv) (Memref.isWhole_whole _) (Memref.whole main_v1_scv) (Memref.isWhole_whole _) (Memref.whole cc1_scratch0) (Memref.isWhole_whole _)
          (Memref.whole cc1_scratch1) (Memref.isWhole_whole _) (Memref.whole cc1_scratch2) (Memref.isWhole_whole _) (Memref.whole cc1_scratch3) (Memref.isWhole_whole _)
          (Memref.whole cc1_scratch4) (Memref.isWhole_whole _) (Memref.whole cc1_scratch5) (Memref.isWhole_whole _) (Memref.whole cc1_scratch6) (Memref.isWhole_whole _)
          (Memref.whole cc1_scratch7) (Memref.isWhole_whole _) (Memref.whole cc1_scratch8) (Memref.isWhole_whole _) (Memref.whole cc1_scratch9) (Memref.isWhole_whole _)
          (Memref.whole cc1_scratch10) (Memref.isWhole_whole _) (Memref.whole cc1_scratch11) (Memref.isWhole_whole _) (Memref.whole cc1_scratch12) (Memref.isWhole_whole _)
          (Memref.whole cc1_scratch13) (Memref.isWhole_whole _)
          cc1_scratch14 cc1_scratch15 cc1_scratch16 cc1_scratch17 cc1_scoped0 cc1_scoped1 cc1_scoped2 cc1_scoped3 cc1_scoped4 cc1_scoped5) ⟨⟩ c s := rfl

omit [FloatOps F] in
/-- What a task leaves owed, as the launch asks. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The first call's task does what the launch asks, -/
theorem obl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_zero]; simp only [SparseCore.onTile, hci, and_self, ↓reduceDIte]
  exact (tile0 m facts hpre d (at0 ⟨_, hci.1⟩ ⟨_, hci.2⟩) hO).trans (wp_mono frame _ _ fun _ => obl_post)

set_option maxRecDepth 16384 in
/-- and the second's. -/
theorem obl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_one]; simp only [SparseCore.onTile, hci, and_self, ↓reduceDIte]
  exact (tile1 m facts hpre d (at1 ⟨_, hci.1⟩ ⟨_, hci.2⟩) hO).trans (wp_mono frame _ _ fun _ => obl_post)

/-! ## The deals, as the launch asks for them -/

omit [FloatOps F] in
/-- A product over a call's cores is one over the chip's. -/
theorem over_cores (q : Fin 2) (Φ : Fin τ.nSC → sProp 𝕄) :
    (bigSep Finset.univ fun c : Fin ((K (F := F)).nCore q) => Φ ((K (F := F)).core q c)) = bigSep Finset.univ Φ :=
  match q with
  | 0 => bigSep_congr fun _ _ => congrArg Φ (Fin.ext rfl)
  | 1 => bigSep_congr fun _ _ => congrArg Φ (Fin.ext rfl)

omit [FloatOps F] in
/-- A product over a call's tiles is one over the core's. -/
theorem over_tiles (q : Fin 2) (Φ : Fin τ.nSub → sProp 𝕄) :
    (bigSep Finset.univ fun i : Fin ((K (F := F)).nSub q) => Φ ((K (F := F)).sub q i)) = bigSep Finset.univ Φ :=
  match q with
  | 0 => bigSep_congr fun _ _ => congrArg Φ (Fin.ext rfl)
  | 1 => bigSep_congr fun _ _ => congrArg Φ (Fin.ext rfl)

/-- A deal to a core's tiles, in the launch's words. -/
theorem Deals.tiles {q : Fin 2} {A A' : sProp 𝕄} {Φ Ψ : Fin τ.nSub → sProp 𝕄} (h : Deals τ.nSub A A' Φ Ψ) :
    A ⊢ |={Set.univ}=> iprop((bigSep Finset.univ fun i : Fin ((K (F := F)).nSub q) => Φ ((K (F := F)).sub q i))
      ∗ ((bigSep Finset.univ fun i : Fin ((K (F := F)).nSub q) => Ψ ((K (F := F)).sub q i)) -∗ A')) := by
  rw [over_tiles, over_tiles]
  iintro H
  imodintro
  iapply h.deal; iexact H

/-- Each core deals the first call to its tiles, -/
theorem split0 : (K (F := F)).VecSplit' (P m) 0 := fun d c => (deals_core0 m d ((K (F := F)).core 0 c) (m (wLoc d)) (wFin m d)).tiles (q := 0)
/-- and the second. -/
theorem split1 : (K (F := F)).VecSplit' (P m) 1 := fun d c => (deals_core1 m d ((K (F := F)).core 1 c) (m (oLoc d)) (oFin m d)).tiles (q := 1)

/-! ## The launch's ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 2 => (P (F := F) m).x q thr) = bigSep Finset.univ fun _ => iprop(emp) from
    bigSep_congr fun _ _ => bigSep_emp_const _, bigSep_nothing]
  iempintro

/-! ## The program on the TensorCore -/

omit [FloatOps F] in
theorem unscoped (d : Dev nD) (W : (b : Ref sig .tc) → Buf (Elt F) ((d.tc : Thread nD τ).loc b)) :
    (unscopedBufs d W : sProp 𝕄) = iprop((mLoc d ↦{fullShare} W main_arg0) ∗ (iLoc d ↦{fullShare} W main_arg1) ∗ (vLoc d ↦{fullShare} W main_arg2)
      ∗ (rLoc d ↦{fullShare} W main_arg3) ∗ (wLoc d ↦{fullShare} W main_v0) ∗ (oLoc d ↦{fullShare} W main_v1)) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide), SparseCore.bigSep_insert' (by decide),
    SparseCore.bigSep_insert' (by decide), bigSep_singleton]

/-- What the program ends with: the arguments as they were, the result written. -/
abbrev FIN (d : Dev nD) : sProp 𝕄 :=
  iprop((mLoc d ↦{fullShare} m (mLoc d)) ∗ (iLoc d ↦{fullShare} m (iLoc d)) ∗ (vLoc d ↦{fullShare} m (vLoc d)) ∗ (rLoc d ↦{fullShare} m (rLoc d))
    ∗ (oLoc d ↦{fullShare} oFin m d))

/-- What the first call brings back, -/
theorem dn_zero (d : Dev nD) : (bigSep Finset.univ fun c : Fin ((K (F := F)).nCore 0) => (P m).dn 0 d c) = bigSep Finset.univ fun c => core0 m d c (wFin m d) :=
  over_cores 0 _
/-- and the second. -/
theorem dn_one (d : Dev nD) : (bigSep Finset.univ fun c : Fin ((K (F := F)).nCore 1) => (P m).dn 1 d c) = bigSep Finset.univ fun c => core1 m d c (oFin m d) :=
  over_cores 1 _

/-- The program: the two calls in turn. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped]
  simp only [main, wp_bind, wp_pure]
  iintro ⟨#Hctx, Hst, ⟨Hb, ⟨Hm, Hi, Hv, Hr, Hw, Ho⟩, Hts, -⟩, -⟩
  ihave H0 := (deals_all0 m d (m (wLoc d)) (wFin m d)).deal $$ [Hi Hr Hw]
  · unfold all0
    isplitl [Hi]; · iexact Hi
    isplitl [Hr]; · iexact Hr
    iexact Hw
  icases H0 with ⟨H0, H0'⟩
  iapply ((K (F := F)).wp_run (D (F := F)) 𝒱 (EH := EH) (P := P m) κ d 0) $$ [Hst Hb Hts Hm Hv Ho H0 H0']
  isplitr; · iexact Hctx
  isplitl [Hst]; · iexact Hst
  isplitl [H0]
  · iapply (Entails.of_eq (over_cores (F := F) 0 fun c => core0 m d c (m (wLoc d))).symm)
    iexact H0
  iintro ⟨Hst, Hdn⟩
  ihave Hdn := (Entails.of_eq (dn_zero m d)) $$ Hdn
  ihave Hdn := H0' $$ Hdn
  unfold all0
  icases Hdn with ⟨Hi, Hr, Hw⟩
  ihave H1 := (deals_all1 m d (m (oLoc d)) (oFin m d)).deal $$ [Hm Hv Hr Hw Ho]
  · unfold all1
    isplitl [Hm]; · iexact Hm
    isplitl [Hv]; · iexact Hv
    isplitl [Hr]; · iexact Hr
    isplitl [Hw]; · iexact Hw
    iexact Ho
  icases H1 with ⟨H1, H1'⟩
  iapply ((K (F := F)).wp_run (D (F := F)) 𝒱 (EH := EH) (P := P m) κ d 1) $$ [Hst Hb Hts Hi H1 H1']
  isplitr; · iexact Hctx
  isplitl [Hst]; · iexact Hst
  isplitl [H1]
  · iapply (Entails.of_eq (over_cores (F := F) 1 fun c => core1 m d c (m (oLoc d))).symm)
    iexact H1
  iintro ⟨Hst, Hdn⟩
  ihave Hdn := (Entails.of_eq (dn_one m d)) $$ Hdn
  ihave Hdn := H1' $$ Hdn
  unfold all1
  icases Hdn with ⟨Hm, Hv, Hr, -, Ho⟩
  imodintro
  isplitl [Hst]; · iexact Hst
  isplitr [Hb Hts]
  · isplitl [Hm]; · iexact Hm
    isplitl [Hi]; · iexact Hi
    isplitl [Hv]; · iexact Hv
    isplitl [Hr]; · iexact Hr
    iexact Ho
  isplitl [Hb] <;> iassumption

/-- A buffer held whole has the contents it is held at. -/
theorem holds {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

/-- What the final memory has on a device. -/
def fq (d : Dev nD) (s' : Phys nD τ sig (Elt F)) : Prop :=
  s'.mem.mem (oLoc d) = oFin m d ∧ s'.mem.mem (mLoc d) = m (mLoc d) ∧ s'.mem.mem (iLoc d) = m (iLoc d) ∧ s'.mem.mem (vLoc d) = m (vLoc d)
    ∧ s'.mem.mem (rLoc d) = m (rLoc d)

/-- The program's end says so. -/
theorem hfin (d : Dev nD) (s' : Phys nD τ sig (Elt F)) : iprop(FIN m d ∗ SI s') ⊢ (⌜fq m d s'⌝ : sProp 𝕄) := by
  iintro ⟨⟨Hm, Hi, Hv, Hr, Ho⟩, HSI⟩
  ihave H := (holds (F := F)) $$ [Hm HSI]
  · isplitl [Hm]; · iexact Hm
    iexact HSI
  icases H with ⟨%hm, HSI⟩
  ihave H := (holds (F := F)) $$ [Hi HSI]
  · isplitl [Hi]; · iexact Hi
    iexact HSI
  icases H with ⟨%hi, HSI⟩
  ihave H := (holds (F := F)) $$ [Hv HSI]
  · isplitl [Hv]; · iexact Hv
    iexact HSI
  icases H with ⟨%hv, HSI⟩
  ihave H := (holds (F := F)) $$ [Hr HSI]
  · isplitl [Hr]; · iexact Hr
    iexact HSI
  icases H with ⟨%hr, HSI⟩
  ihave H := (holds (F := F)) $$ [Ho HSI]
  · isplitl [Ho]; · iexact Ho
    iexact HSI
  icases H with ⟨%ho, HSI⟩
  ipureintro
  exact ⟨ho, hm, hi, hv, hr⟩

/-- What the program ends with on every device. -/
def QC : PUnit × MemSt nD τ sig (Elt F) → Prop := fun r =>
  (∀ d : Dev nD, r.2.mem (oLoc d) = oFin m d ∧ r.2.mem (mLoc d) = m (mLoc d) ∧ r.2.mem (iLoc d) = m (iLoc d) ∧ r.2.mem (vLoc d) = m (vLoc d)
    ∧ r.2.mem (rLoc d) = m (rLoc d)) ∧ r.2.sem = fun _ => 0

/-- The whole program: every execution ends, with the result written, the arguments kept and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => obl0 m hpre | 1 => obl1 m hpre)
    (fun q _ => match q with | 0 => SparseCore.Cfg.VecSplit.of_plain (split0 m) | 1 => SparseCore.Cfg.VecSplit.of_plain (split1 m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Reference.lean ====
module
public import proofs.«01_k».proof.Defs
public import proofs.«01_k».proof.Proof.Value
public import proofs.«01_k».proof.Proof.Gen.ReferenceIdeal
public import proofs.«01_k».proof.Proof.Gen.ReferenceIdeal.Run
public import proofs.«01_k».proof.Proof.Gen.Pre_in_range
public import Idealize.ShloMosaic.Lib.Routing.OpsPair
public import Idealize.ShloMosaic.Lib.ReduceAll

/-!
# The reference's value

The reference writes the rows of `val` into `mem` in turn, the last write of a row staying, and reads rows of what
results. Where every index is a row of `mem`, that is the row of `val` the winner names, or the row of `mem` when the
row is never written: `outVal` at `wVal`.
-/

@[expose] public section

noncomputable section

namespace Cert.Proof

open Cert.ReferenceIdeal Cert.ReferenceIdeal.Gen
open Idealize.ShloMosaic Idealize.SL.Sem

/-! ## The scatter's update numbers -/

abbrev dS : ScatterDims S100000x128 S16384x1 S16384x128 := scatter_S100000x128_S16384x1_S16384x128_1_0_0_1
abbrev dG : GatherDims S100000x128 S16384x1 S16384x128 := gather_S100000x128_S16384x1_S16384x128_1_0_n_n_0_1_1128

/-- The cell of a column of index words at a row. -/
abbrev colAt (k : Fin 16384) : S16384x1.Idx := Shape.pair (d := ![16384, 1]) k (0 : Fin 1)

/-- Where an update starts: at the row its index word names, -/
theorem start_row (j : S16384x128.Idx) (idx : IVec S16384x1 32) : dS.start j idx 0 = (idx (colAt (j 0))).toInt := by
  unfold ScatterDims.start
  rw [dif_pos (show (0 : Fin 2) ∈ dS.scatterDimsToOperandDims from List.mem_singleton.2 rfl)]
  refine congrArg (fun y => (idx y).toInt) (funext fun b => Fin.ext ?_)
  match b with
  | ⟨0, _⟩ => rfl
  | ⟨1, _⟩ => rfl
/-- at column zero; -/
theorem start_col (j : S16384x128.Idx) (idx : IVec S16384x1 32) : dS.start j idx 1 = 0 :=
  dif_neg (show (1 : Fin 2) ∉ dS.scatterDimsToOperandDims by decide)
/-- and within it, at its own column. -/
theorem window_row (j : S16384x128.Idx) : dS.window j 0 = 0 := dif_neg (show (0 : Fin 2) ∉ dS.sKept by decide)
@[inherit_doc window_row] theorem window_col (j : S16384x128.Idx) : dS.window j 1 = (j 1).val := by
  unfold ScatterDims.window
  rw [dif_pos (show (1 : Fin 2) ∈ dS.sKept by decide)]
  rfl

/-- An update lands at a cell when its index word names the row and its column is the cell's. -/
theorem lands_iff (idx : IVec S16384x1 32) (j : S16384x128.Idx) (z : S100000x128.Idx) :
    dS.resultIdx? j idx = some z ↔ (idx (colAt (j 0))).toInt = ((z 0).val : Int) ∧ (j 1).val = (z 1).val := by
  have h0 : (z 0).val < 100000 := (z 0).isLt
  have h1 : (z 1).val < 128 := (z 1).isLt
  have hj : (j 1).val < 128 := (j 1).isLt
  unfold ScatterDims.resultIdx?
  constructor
  · intro h
    split at h
    · next hb =>
      have e := Option.some.inj h
      have e0 : (dS.start j idx 0 + dS.window j 0).toNat = (z 0).val := congrArg (fun y : S100000x128.Idx => (y 0).val) e
      have e1 : (dS.start j idx 1 + dS.window j 1).toNat = (z 1).val := congrArg (fun y : S100000x128.Idx => (y 1).val) e
      have b0 := (hb 0).1
      rw [start_row, window_row] at e0 b0
      rw [start_col, window_col] at e1
      exact ⟨by omega, by omega⟩
    · exact nomatch h
  · rintro ⟨e0, e1⟩
    have hb : ∀ a : Fin 2, 0 ≤ dS.start j idx a + dS.window j a ∧ dS.start j idx a + dS.window j a < S100000x128.size a := by
      intro a
      match a with
      | ⟨0, _⟩ => show 0 ≤ dS.start j idx 0 + dS.window j 0 ∧ dS.start j idx 0 + dS.window j 0 < (100000 : Nat); rw [start_row, window_row]; omega
      | ⟨1, _⟩ => show 0 ≤ dS.start j idx 1 + dS.window j 1 ∧ dS.start j idx 1 + dS.window j 1 < (128 : Nat); rw [start_col, window_col]; omega
    rw [dif_pos hb]
    refine congrArg some (funext fun a => Fin.ext ?_)
    match a with
    | ⟨0, _⟩ => show (dS.start j idx 0 + dS.window j 0).toNat = (z 0).val; rw [start_row, window_row]; omega
    | ⟨1, _⟩ => show (dS.start j idx 1 + dS.window j 1).toNat = (z 1).val; rw [start_col, window_col]; omega

/-- The update of a number: its row and column. -/
theorem symm_row (n : Fin S16384x128.numel) : ((S16384x128.rowMajor.symm n) 0).val = n.val / 128 ∧ ((S16384x128.rowMajor.symm n) 1).val = n.val % 128 := by
  have h := Shape.rowMajor_val_two (d := ![16384, 128]) (S16384x128.rowMajor.symm n)
  rw [Equiv.apply_symm_apply] at h
  have h1 : ((S16384x128.rowMajor.symm n) 1).val < 128 := ((S16384x128.rowMajor.symm n) 1).isLt
  have h' : n.val = ((S16384x128.rowMajor.symm n) 0).val * 128 + ((S16384x128.rowMajor.symm n) 1).val := h
  constructor <;> omega

/-- A cell after the first `n` rows of updates. -/
def after {β : Type} (mem : S100000x128.Idx → β) (val : S16384x128.Idx → β) (ix : Nat → Nat) (n : Nat) (z : S100000x128.Idx) : β :=
  if winN ix n (z 0).val = 0 then mem z else rowOf (n := 16384) val (winN ix n (z 0).val - 1) (z 1)

/-- The scatter's cell: the row of `val` of the last update of the cell's row, or the operand's. -/
theorem scatter_after {β : Type} (mem : S100000x128.Idx → β) (val : S16384x128.Idx → β) (idx : S16384.Idx → BitVec 32) (hr : ∀ x, (idx x).toNat < 100000)
    (z : S100000x128.Idx) :
    Host.scatter dS (fun _ b => b) mem (fun y => idx (Shape.ofLane (d := ![16384]) (y 0))) val z = after mem val (natOf idx) 16384 z := by
  have hz : (z 1).val < 128 := (z 1).isLt
  rw [Routing.scatter_at]
  have h := foldl_finRange_inv (n := S16384x128.numel)
    (fun a n => if dS.resultIdx? (S16384x128.rowMajor.symm n) (fun y => idx (Shape.ofLane (d := ![16384]) (y 0))) = some z then val (S16384x128.rowMajor.symm n) else a) (mem z)
    (fun k a => a = after mem val (natOf idx) ((k + 127 - (z 1).val) / 128) z) ?_ ?_
  · rw [h]
    have hN : S16384x128.numel = 2097152 := by decide
    rw [hN, show (2097152 + 127 - (z 1).val) / 128 = 16384 by omega]
  · rw [show (0 + 127 - (z 1).val) / 128 = 0 by omega]
    rfl
  · intro k a ha
    subst ha
    obtain ⟨k0, k1⟩ := symm_row k
    dsimp only
    generalize hj : S16384x128.rowMajor.symm k = j at k0 k1
    have hj0 : (j 0).val < 16384 := (j 0).isLt
    have hi : natOf idx (k.val / 128) = (idx (Shape.ofLane (d := ![16384]) (j 0))).toNat := by
      rw [← k0]
      exact natOf_idx idx (Shape.ofLane (d := ![16384]) (j 0))
    have hlt := hr (Shape.ofLane (d := ![16384]) (j 0))
    have hint : (idx (Shape.ofLane (d := ![16384]) (j 0))).toInt = ((idx (Shape.ofLane (d := ![16384]) (j 0))).toNat : Int) := BitVec.toInt_eq_toNat_of_lt (by omega)
    have hl : dS.resultIdx? j (fun y => idx (Shape.ofLane (d := ![16384]) (y 0))) = some z ↔ natOf idx (k.val / 128) = (z 0).val ∧ k.val % 128 = (z 1).val := by
      rw [lands_iff, hi, ← k1]
      show (idx (Shape.ofLane (d := ![16384]) (j 0))).toInt = _ ∧ _ ↔ _
      rw [hint]
      omega
    by_cases hc : k.val % 128 = (z 1).val
    · rw [show (k.val + 127 - (z 1).val) / 128 = k.val / 128 by omega, show (k.val + 1 + 127 - (z 1).val) / 128 = k.val / 128 + 1 by omega]
      unfold after
      rw [winN]
      by_cases he : natOf idx (k.val / 128) = (z 0).val
      · rw [if_pos (hl.2 ⟨he, hc⟩), if_pos he, if_neg (Nat.succ_ne_zero _)]
        unfold rowOf
        refine congrArg val ((Shape.pair_eta (d := ![16384, 128]) j).symm.trans ?_)
        refine congrArg₂ (Shape.pair (d := ![16384, 128])) (Fin.ext ?_) (Fin.ext ?_)
        · show (j 0).val = (k.val / 128 + 1 - 1) % 16384
          omega
        · show (j 1).val = (z 1).val
          omega
      · rw [if_neg (fun h => he (hl.1 h).1), if_neg he]
    · rw [if_neg (fun h => hc (hl.1 h).2), show (k.val + 1 + 127 - (z 1).val) / 128 = (k.val + 127 - (z 1).val) / 128 by omega]

/-! ## The gather -/

/-- The row the gather reads from: the one its index word names, held to the last; -/
theorem from_row (j : S16384x128.Idx) (idx : IVec S16384x1 32) :
    dG.start j idx 0 + dG.batchCoord j 0 + dG.offCoord j 0 = min (idx (colAt (j 0))).toInt.toNat 99999 := by
  rw [GatherDims.batchCoord_eq_zero _ _ _ List.not_mem_nil, GatherDims.offCoord_eq_zero _ _ _ (show (0 : Fin 2) ∉ dG.sKept by decide)]
  unfold GatherDims.start
  rw [dif_pos (show (0 : Fin 2) ∈ dG.startIndexMap from List.mem_singleton.2 rfl)]
  show min (idx _).toInt.toNat 99999 = _
  refine congrArg (fun y => min (idx y).toInt.toNat 99999) (funext fun b => Fin.ext ?_)
  match b with
  | ⟨0, _⟩ => rfl
  | ⟨1, _⟩ => rfl
/-- and the column: its own. -/
theorem from_col (j : S16384x128.Idx) (idx : IVec S16384x1 32) :
    dG.start j idx 1 + dG.batchCoord j 1 + dG.offCoord j 1 = (j 1).val := by
  rw [GatherDims.batchCoord_eq_zero _ _ _ List.not_mem_nil, show dG.start j idx 1 = 0 from dif_neg (show (1 : Fin 2) ∉ dG.startIndexMap by decide)]
  unfold GatherDims.offCoord
  rw [dif_pos (show (1 : Fin 2) ∈ dG.sKept by decide)]
  show 0 + 0 + (j 1).val = (j 1).val
  omega

/-- The cell the gather reads: the row the index word names, at the same column. -/
theorem gather_row {β : Type} (X : S100000x128.Idx → β) (idx : S16384.Idx → BitVec 32) (hr : ∀ x, (idx x).toNat < 100000) (j : S16384x128.Idx) :
    Host.gather dG X (fun y => idx (Shape.ofLane (d := ![16384]) (y 0))) j = rowOf (n := 100000) X (idx (Shape.ofLane (d := ![16384]) (j 0))).toNat (j 1) := by
  unfold Host.gather rowOf
  have hlt := hr (Shape.ofLane (d := ![16384]) (j 0))
  have hint : (idx (Shape.ofLane (d := ![16384]) (j 0))).toInt = ((idx (Shape.ofLane (d := ![16384]) (j 0))).toNat : Int) := BitVec.toInt_eq_toNat_of_lt (by omega)
  refine congrArg X (funext fun a => Fin.ext ?_)
  match a with
  | ⟨0, _⟩ =>
    refine (from_row j _).trans ?_
    show min (idx (Shape.ofLane (d := ![16384]) (j 0))).toInt.toNat 99999 = (idx (Shape.ofLane (d := ![16384]) (j 0))).toNat % 100000
    rw [hint]
    omega
  | ⟨1, _⟩ => exact from_col j _

/-! ## The words in range -/

/-- A word below the number of rows, as the reference tests it: not negative, -/
theorem word_tests {v : BitVec 32} (h : v.toNat < 100000) :
    IntOp.cmpi .slt v 0#32 = 0#1 ∧ IntOp.andi (IntOp.cmpi .sge v 0#32) (IntOp.cmpi .sle v 99999#32) = 1#1 := by
  have hv : v.toInt = (v.toNat : Int) := BitVec.toInt_eq_toNat_of_lt (by omega)
  have h1 : v.slt 0#32 = false := by
    rw [BitVec.slt, hv]; exact decide_eq_false (by show ¬ (v.toNat : Int) < 0; omega)
  have h2 : (0#32).sle v = true := by
    rw [BitVec.sle, hv]; exact decide_eq_true (by show (0 : Int) ≤ v.toNat; omega)
  have h3 : v.sle 99999#32 = true := by
    rw [BitVec.sle, hv]; exact decide_eq_true (by show (v.toNat : Int) ≤ 99999; omega)
  simp only [IntOp.cmpi, h1, h2, h3]
  decide

/-- The index words after the reference's wrap of negative ones are the words, when none is negative; -/
theorem wrap_eq (idx : S16384.Idx → BitVec 32) (hr : ∀ x, (idx x).toNat < 100000) (h h' : S_.BroadcastsInDim S16384 (![] : Fin 0 → Fin S16384.rank)) :
    select (cmpi .slt idx (broadcastInDim S16384 ![] h (constantI S_ 32 0#32))) (addi idx (broadcastInDim S16384 ![] h' (constantI S_ 32 100000#32))) idx = idx := by
  funext x
  show Scalar.select (IntOp.cmpi .slt (idx x) 0#32) _ (idx x) = idx x
  rw [(word_tests (hr x)).1]
  exact if_neg (by decide)

/-- laid out as a column, each at its row. -/
theorem col_eq {β : Type} (f : S16384.Idx → β) (h : S16384.BroadcastsInDim S16384x1 (![0] : Fin 1 → Fin S16384x1.rank)) :
    broadcastInDim S16384x1 ![0] h f = fun y => f (Shape.ofLane (d := ![16384]) (y 0)) := by
  funext y
  unfold broadcastInDim
  refine congrArg f (funext fun a => ?_)
  rw [Fin.eq_zero a]
  exact dif_neg (by decide)

/-- A cell of the row a word names, after all the updates, as the kernel chooses it from the winner of the row. -/
theorem read_back {β : Type} (mem : S100000x128.Idx → β) (val : S16384x128.Idx → β) (ix : Nat → Nat) (v : BitVec 32) (hv : v.toNat < 100000) (c : Fin 128) :
    rowOf (n := 100000) (after mem val ix 16384) v.toNat c
      = Scalar.select (IntOp.cmpi .sgt (BitVec.ofNat 32 (winN ix 16384 v.toNat)) 0#32)
          (rowOf (n := 16384) val (BitVec.ofNat 32 (winN ix 16384 v.toNat) - 1#32).toNat c) (rowOf (n := 100000) mem v.toNat c) := by
  have hle := winN_le ix 16384 v.toNat
  have hm : rowOf (n := 100000) (after mem val ix 16384) v.toNat c
      = if winN ix 16384 (v.toNat % 100000) = 0 then rowOf (n := 100000) mem v.toNat c else rowOf (n := 16384) val (winN ix 16384 (v.toNat % 100000) - 1) c := rfl
  rw [hm, Nat.mod_eq_of_lt hv]
  generalize winN ix 16384 v.toNat = w at hle
  have hw : (BitVec.ofNat 32 w).toNat = w := by rw [BitVec.toNat_ofNat, Nat.mod_eq_of_lt (by omega)]
  have hs := sgt_zero (BitVec.ofNat 32 w) (by omega)
  by_cases h0 : w = 0
  · rw [if_pos h0]
    refine (if_neg (fun h => ?_)).symm
    have := hs.1 h
    omega
  · rw [if_neg h0]
    refine Eq.trans ?_ (if_pos (hs.2 (by omega))).symm
    have h1 : (BitVec.ofNat 32 w - 1#32).toNat = w - 1 := by
      rw [BitVec.toNat_sub, hw]
      show (2 ^ 32 - 1 + w) % 2 ^ 32 = w - 1
      omega
    rw [h1]

/-- The reference's mask of the reads: every one in range. -/
theorem mask_one (ridx : S16384.Idx → BitVec 32) (hr : ∀ x, (ridx x).toNat < 100000) (j : S16384x128.Idx) :
    broadcastInDim S16384x128 ![0] bcast_S16384_S16384x128_0
        (Host.reduce IntOp.andi (andi (cmpi .sge (fun y : S16384x1.Idx => ridx (Shape.ofLane (d := ![16384]) (y 0))) (broadcastInDim S16384x1 ![] bcast_S_S16384x1 (constantI S_ 32 0#32)))
          (cmpi .sle (fun y : S16384x1.Idx => ridx (Shape.ofLane (d := ![16384]) (y 0))) (broadcastInDim S16384x1 ![0, 1] bcast_S1x1_S16384x1_0_1 (broadcastInDim S1x1 ![1] bcast_S1_S1x1_1 (constantI S1 32 99999#32)))))
          (constantI S_ 1 1#1) reducesTo_S16384x1_S16384_d1 h_S_) j = 1#1 := by
  unfold broadcastInDim
  exact Host.reduce_andi_one _ _ _ _ _ rfl (fun y => (word_tests (hr (Shape.ofLane (d := ![16384]) (y 0)))).2)

/-- A vector chosen by a mask of ones is the first. -/
theorem select_ones {s : Shape} {β : Type} (c : IVec s 1) (a b : s.Idx → β) (h : ∀ j, c j = 1#1) : select c a b = a :=
  funext fun j => if_pos (h j)

/-- The reference's result, the mask aside. -/
theorem read_out {β : Type} (mem : S100000x128.Idx → β) (val : S16384x128.Idx → β) (idx ridx : S16384.Idx → BitVec 32)
    (hi : ∀ x, (idx x).toNat < 100000) (hr : ∀ x, (ridx x).toNat < 100000) (j : S16384x128.Idx) :
    Host.gather dG (Host.scatter dS (fun _ b => b) mem (fun y => idx (Shape.ofLane (d := ![16384]) (y 0))) val) (fun y => ridx (Shape.ofLane (d := ![16384]) (y 0))) j
      = Scalar.select (IntOp.cmpi .sgt (wVal idx ridx (Shape.ofLane (d := ![16384]) (j 0))) 0#32)
          (rowOf (n := 16384) val (wVal idx ridx (Shape.ofLane (d := ![16384]) (j 0)) - 1#32).toNat (j 1))
          (rowOf (n := 100000) mem (ridx (Shape.ofLane (d := ![16384]) (j 0))).toNat (j 1)) := by
  rw [show Host.scatter dS (fun _ b => b) mem (fun y => idx (Shape.ofLane (d := ![16384]) (y 0))) val = after mem val (natOf idx) 16384 from
    funext (scatter_after mem val idx hi), gather_row _ _ hr]
  exact read_back mem val (natOf idx) (ridx (Shape.ofLane (d := ![16384]) (j 0))) (hr _) (j 1)

variable {F : FTy → Type} [FloatOps F]

/-- The reference's result. -/
theorem ref_out (mem : S100000x128.Idx → Elt F .f32) (val : S16384x128.Idx → Elt F .f32) (idx ridx : S16384.Idx → BitVec 32)
    (hi : ∀ x, (idx x).toNat < 100000) (hr : ∀ x, (ridx x).toNat < 100000) (N : S16384x128.Idx → Elt F .f32) :
    select (broadcastInDim S16384x128 ![0] bcast_S16384_S16384x128_0
        (Host.reduce IntOp.andi (andi (cmpi .sge (fun y : S16384x1.Idx => ridx (Shape.ofLane (d := ![16384]) (y 0))) (broadcastInDim S16384x1 ![] bcast_S_S16384x1 (constantI S_ 32 0#32)))
          (cmpi .sle (fun y : S16384x1.Idx => ridx (Shape.ofLane (d := ![16384]) (y 0))) (broadcastInDim S16384x1 ![0, 1] bcast_S1x1_S16384x1_0_1 (broadcastInDim S1x1 ![1] bcast_S1_S1x1_1 (constantI S1 32 99999#32)))))
          (constantI S_ 1 1#1) reducesTo_S16384x1_S16384_d1 h_S_))
      (Host.gather dG (Host.scatter dS (fun _ b => b) mem (fun y => idx (Shape.ofLane (d := ![16384]) (y 0))) val) (fun y => ridx (Shape.ofLane (d := ![16384]) (y 0)))) N
      = outVal mem val ridx (wVal idx ridx) := by
  rw [select_ones _ _ _ (mask_one ridx hr)]
  exact funext fun j => read_out mem val idx ridx hi hr j

/-- The reference's run: its result is the one the kernel leaves, and its arguments stay. -/
theorem ref_run (m : (ℓ : Loc nD τ sig) → Buf (Elt F) ℓ) (ρ : Dev nD → PrngReg)
    (hi : ∀ (c : Dev nD) (x : S16384.Idx), (m ((c.tc : Thread nD τ).loc main_arg1) x : BitVec 32).toNat < 100000)
    (hr : ∀ (c : Dev nD) (x : S16384.Idx), (m ((c.tc : Thread nD τ).loc main_arg3) x : BitVec 32).toNat < 100000) :
    θ_run (defs (F := F)) (onTc (τ := τ) (main (F := F))) ⟨m, fun _ => 0, ρ⟩ fun r => ∀ c : Dev nD,
      r.2.mem ((c.tc : Thread nD τ).loc main_v7) = outVal (m ((c.tc : Thread nD τ).loc main_arg0)) (m ((c.tc : Thread nD τ).loc main_arg2))
          (m ((c.tc : Thread nD τ).loc main_arg3)) (wVal (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2⟩) (Cert.ReferenceIdeal.Value.run m ρ)
  rw [wrap_eq _ (hi c), wrap_eq _ (hr c), col_eq, col_eq]
  exact ref_out _ _ _ _ (hi c) (hr c) _

/-! ## The precondition -/

/-- A word tested not below zero and below the number of rows is below it as a number. -/
theorem word_lt {v : BitVec 32} (h0 : IntOp.cmpi .sge v 0#32 = 1#1) (h1 : IntOp.cmpi .slt v 100000#32 = 1#1) : v.toNat < 100000 := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond,
    BitVec.toNat_ofNat, Nat.reducePow, Nat.reduceMod] at h0 h1
  omega

instance : Subsingleton Cert.Pre_in_range.S_.Idx := ⟨fun a b => funext fun k => k.elim0⟩

/-- The precondition says that every index written and every index read is a row of `mem`. -/
theorem in_range_rows (a0 : S100000x128.Idx → Elt F .f32) (a1 : S16384.Idx → BitVec 32) (a2 : S16384x128.Idx → Elt F .f32) (a3 : S16384.Idx → BitVec 32)
    (h : Cert.Pre_in_range.fn (F := F) a0 a1 a2 a3 = fun _ => 1#1) (x : S16384.Idx) : (a1 x).toNat < 100000 ∧ (a3 x).toNat < 100000 := by
  have e := Host.reduce_andi_all _ _ _ _ _ (congrFun h (fun k => k.elim0)) x
  obtain ⟨e, e3⟩ := IntOp.andi_eq_one.1 e
  obtain ⟨e, e2⟩ := IntOp.andi_eq_one.1 e
  obtain ⟨e0, e1⟩ := IntOp.andi_eq_one.1 e
  exact ⟨word_lt e0 e1, word_lt e2 e3⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition of the kernel is what its run asks, -/
theorem rows_kernel (m : (ℓ : Loc Cert.Kernel.nD Cert.Kernel.τ Cert.Kernel.sig) → Buf (Elt Bits) ℓ) (h : Cert.Pre_Kernel m) : PreOK (F := Bits) m :=
  fun d => ⟨fun x => (in_range_rows (F := Bits) _ _ _ _ (h d) x).1, fun x => (in_range_rows (F := Bits) _ _ _ _ (h d) x).2⟩
/-- and that of the idealization. -/
theorem rows_ideal (m : (ℓ : Loc Cert.KernelIdeal.nD Cert.KernelIdeal.τ Cert.KernelIdeal.sig) → Buf (Elt Ideal) ℓ) (h : Cert.Pre_KernelIdeal m) :
    PreOK (F := Ideal) m :=
  fun d => ⟨fun x => (in_range_rows (F := Ideal) _ _ _ _ (h d) x).1, fun x => (in_range_rows (F := Ideal) _ _ _ _ (h d) x).2⟩

/-- The kernel runs, keeps its arguments and ends with its semaphores at zero. -/
theorem frame_kernel : Cert.quiescent_Kernel := fun m ρ h =>
  (θ_run (Cert.KernelIdeal.defs (F := Bits)) _ _).mono (fun _ e => ⟨fun c => (e.1 c).2, e.2⟩) (run_main (F := Bits) m ρ (rows_kernel m h))

/-- The idealization runs, keeps its arguments and ends with its semaphores at zero. -/
theorem frame_ideal : Cert.quiescent_KernelIdeal := fun m ρ h =>
  (θ_run (Cert.KernelIdeal.defs (F := Ideal)) _ _).mono (fun _ e => ⟨fun c => (e.1 c).2, e.2⟩) (run_main (F := Ideal) m ρ (rows_ideal m h))

/-- The reference runs, keeps its arguments and has no semaphores. -/
theorem frame_reference : Cert.quiescent_ReferenceIdeal := fun m ρ _ =>
  (θ_run (Cert.ReferenceIdeal.defs (F := Ideal)) _ _).mono (fun r e => ⟨fun c => (e c).2, sem_eq_zero_of_no_sems (by decide) r.2⟩)
    (Cert.ReferenceIdeal.Value.run m ρ)

/-- The idealization and the reference end with equal results. -/
theorem same : Cert.algebraic_KernelIdeal_ReferenceIdeal := by
  intro m g m' g' h hm
  have ok := rows_ideal m h
  refine ⟨fun c => oFin (F := Ideal) m c,
    (θ_run (Cert.KernelIdeal.defs (F := Ideal)) _ _).mono (fun _ e => e.1) (run_main (F := Ideal) m g ok), ?_⟩
  refine (θ_run (Cert.ReferenceIdeal.defs (F := Ideal)) _ _).mono (fun r e c => ⟨(e c).1.trans ?_, (e c).2⟩)
    (ref_run (F := Ideal) m' g' (fun c => (hm c).2.1 ▸ (ok c).1) (fun c => (hm c).2.2.2 ▸ (ok c).2))
  obtain ⟨h0, h1, h2, h3⟩ := hm c
  rw [h0, h1, h2, h3]
  rfl

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, same⟩

end Cert.Proof

end
